-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scale_ok [hPre_scale_ok : Cert.Pre_scale_ok.Facts] (m : (ℓ : Loc Cert.KernelIdeal.nD Cert.KernelIdeal.τ Cert.KernelIdeal.sig) → Buf (Elt Ideal) ℓ) : Prop :=
  ∀ c : Dev Cert.KernelIdeal.nD,
    (Cert.Pre_scale_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scale_ok [hPre_scale_ok : Cert.Pre_scale_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scale_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_scale_ok [hKernelIdeal : Cert.KernelIdeal.Facts] [hPre_scale_ok : Cert.Pre_scale_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scale_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_scale_ok [hReferenceIdeal : Cert.ReferenceIdeal.Facts] [hPre_scale_ok : Cert.Pre_scale_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scale_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "sm_log2e" .f32 0x3E38AA3B#32 (((1 / 8) * (Real.log 2)⁻¹ : ℝ) : EReal)

def algebraic_KernelIdeal_ReferenceIdeal_pre_scale_ok [hKernelIdeal : Cert.KernelIdeal.Facts] [hReferenceIdeal : Cert.ReferenceIdeal.Facts] [hPre_scale_ok : Cert.Pre_scale_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scale_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v7)) (v2 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v75) = v1 c
          ∧ r.2.mem ((c.tc : Thread Cert.ReferenceIdeal.nD Cert.ReferenceIdeal.τ).loc Cert.ReferenceIdeal.main_v76) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_scale_ok : Cert.Pre_scale_ok.Facts),
    quiescent_Kernel (hKernel := hKernel)
    ∧ quiescent_KernelIdeal (hKernelIdeal := hKernelIdeal)
    ∧ quiescent_KernelIdeal_pre_scale_ok (hKernelIdeal := hKernelIdeal) (hPre_scale_ok := hPre_scale_ok)
    ∧ quiescent_ReferenceIdeal (hReferenceIdeal := hReferenceIdeal)
    ∧ quiescent_ReferenceIdeal_pre_scale_ok (hReferenceIdeal := hReferenceIdeal) (hPre_scale_ok := hPre_scale_ok)
    ∧ preserves_Kernel_KernelIdeal
    ∧ algebraic_KernelIdeal_ReferenceIdeal_pre_scale_ok (hKernelIdeal := hKernelIdeal) (hReferenceIdeal := hReferenceIdeal) (hPre_scale_ok := hPre_scale_ok)
-- ==== Pre_scale_ok.lean ====
abbrev S3x384x32x64 : Shape := ⟨4, ![3, 384, 32, 64]⟩
abbrev S32 : Shape := ⟨1, ![32]⟩
abbrev S3x384x4x64 : Shape := ⟨4, ![3, 384, 4, 64]⟩
abbrev S4 : Shape := ⟨1, ![4]⟩
abbrev S3x32x384 : Shape := ⟨3, ![3, 32, 384]⟩
abbrev S3x384 : Shape := ⟨2, ![3, 384]⟩
abbrev S_ : Shape := ⟨0, ![]⟩

class Facts : Prop where
  bcast_S_S3x384 : S_.BroadcastsInDim S3x384 (![] : Fin 0 → Fin S3x384.rank)

variable [Facts]

def fn {F : FTy → Type} [FloatOps F] (main_arg0 : FVec F S3x384x32x64 .fp8e4m3) (main_arg1 : FVec F S32 .f32) (main_arg2 : FVec F S3x384x4x64 .fp8e4m3) (main_arg3 : FVec F S4 .f32) (main_arg4 : FVec F S3x384x4x64 .fp8e4m3) (main_arg5 : FVec F S4 .f32) (main_arg6 : FVec F S3x384x32x64 .bf16) (main_arg7 : FVec F S3x32x384 .f32) (main_arg8 : FVec F S3x384x32x64 .fp8e5m2) (main_arg9 : FVec F S3x384 .f32) : IVec S3x384 1 :=
  let main_cst : FVec F S_ .f32 := constant S_ .f32 0x00000000#32
  let main_v0 : FVec F S3x384 .f32 := broadcastInDim S3x384 ![] bcast_S_S3x384 main_cst
  let main_v1 : IVec S3x384 1 := cmpf .oge main_arg9 main_v0
  let main_cst_0 : FVec F S_ .f32 := constant S_ .f32 0x7F800000#32
  let main_v2 : FVec F S3x384 .f32 := broadcastInDim S3x384 ![] bcast_S_S3x384 main_cst_0
  let main_v3 : IVec S3x384 1 := cmpf .olt main_arg9 main_v2
  let main_v4 : IVec S3x384 1 := andi main_v1 main_v3
  main_v4
-- ==== Kernel.lean ====
abbrev S3x384x32x64 : Shape := ⟨4, ![3, 384, 32, 64]⟩
abbrev S32 : Shape := ⟨1, ![32]⟩
abbrev S3x384x4x64 : Shape := ⟨4, ![3, 384, 4, 64]⟩
abbrev S4 : Shape := ⟨1, ![4]⟩
abbrev S3x32x384 : Shape := ⟨3, ![3, 32, 384]⟩
abbrev S3x384 : Shape := ⟨2, ![3, 384]⟩
abbrev S3x32x64x384 : Shape := ⟨4, ![3, 32, 64, 384]⟩
abbrev S3x4x64x384 : Shape := ⟨4, ![3, 4, 64, 384]⟩
abbrev S1x8x64x384 : Shape := ⟨4, ![1, 8, 64, 384]⟩
abbrev S1x1x64x384 : Shape := ⟨4, ![1, 1, 64, 384]⟩
abbrev S1x8x384 : Shape := ⟨3, ![1, 8, 384]⟩
abbrev S64x384 : Shape := ⟨2, ![64, 384]⟩
abbrev S1 : Shape := ⟨1, ![1]⟩
abbrev S384x64 : Shape := ⟨2, ![384, 64]⟩
abbrev S1x384 : Shape := ⟨2, ![1, 384]⟩
abbrev S384 : Shape := ⟨1, ![384]⟩
abbrev S1x1x384 : Shape := ⟨3, ![1, 1, 384]⟩
abbrev S1x1x64x128 : Shape := ⟨4, ![1, 1, 64, 128]⟩
abbrev S64x128 : Shape := ⟨2, ![64, 128]⟩
abbrev S64x256 : Shape := ⟨2, ![64, 256]⟩
abbrev S128x64 : Shape := ⟨2, ![128, 64]⟩
abbrev S128x256 : Shape := ⟨2, ![128, 256]⟩
abbrev S256x64 : Shape := ⟨2, ![256, 64]⟩
abbrev S256x256 : Shape := ⟨2, ![256, 256]⟩
abbrev S1x128 : Shape := ⟨2, ![1, 128]⟩
abbrev S1x256 : Shape := ⟨2, ![1, 256]⟩
abbrev S384x256 : Shape := ⟨2, ![384, 256]⟩

abbrev nBuf : Space → Nat
  | .hbm => 21
  | .vmem => 21
  | .smem => 3
  | _ => 0

abbrev bufTy : (tb : Table) → Fin (tcTables nBuf tb) → BufTy
  | .hbm, ⟨0, _⟩ => ⟨S3x384x32x64, .fp8e4m3⟩
  | .hbm, ⟨1, _⟩ => ⟨S32, .f32⟩
  | .hbm, ⟨2, _⟩ => ⟨S3x384x4x64, .fp8e4m3⟩
  | .hbm, ⟨3, _⟩ => ⟨S4, .f32⟩
  | .hbm, ⟨4, _⟩ => ⟨S3x384x4x64, .fp8e4m3⟩
  | .hbm, ⟨5, _⟩ => ⟨S4, .f32⟩
  | .hbm, ⟨6, _⟩ => ⟨S3x384x32x64, .bf16⟩
  | .hbm, ⟨7, _⟩ => ⟨S3x32x384, .f32⟩
  | .hbm, ⟨8, _⟩ => ⟨S3x384x32x64, .fp8e5m2⟩
  | .hbm, ⟨9, _⟩ => ⟨S3x384, .f32⟩
  | .hbm, ⟨10, _⟩ => ⟨S3x32x64x384, .fp8e4m3⟩
  | .hbm, ⟨11, _⟩ => ⟨S3x4x64x384, .fp8e4m3⟩
  | .hbm, ⟨12, _⟩ => ⟨S3x4x64x384, .fp8e4m3⟩
  | .hbm, ⟨13, _⟩ => ⟨S3x32x64x384, .bf16⟩
  | .hbm, ⟨14, _⟩ => ⟨S3x32x64x384, .fp8e5m2⟩
  | .hbm, ⟨15, _⟩ => ⟨S3x32x64x384, .bf16⟩
  | .hbm, ⟨16, _⟩ => ⟨S3x4x64x384, .bf16⟩
  | .hbm, ⟨17, _⟩ => ⟨S3x4x64x384, .bf16⟩
  | .hbm, ⟨18, _⟩ => ⟨S3x384x32x64, .bf16⟩
  | .hbm, ⟨19, _⟩ => ⟨S3x384x4x64, .bf16⟩
  | .hbm, ⟨20, _⟩ => ⟨S3x384x4x64, .bf16⟩
  | .local _ .vmem, ⟨0, _⟩ => ⟨S1x8x64x384, .fp8e4m3⟩
  | .local _ .vmem, ⟨1, _⟩ => ⟨S1x8x64x384, .fp8e4m3⟩
  | .local _ .vmem, ⟨2, _⟩ => ⟨S1x1x64x384, .fp8e4m3⟩
  | .local _ .vmem, ⟨3, _⟩ => ⟨S1x1x64x384, .fp8e4m3⟩
  | .local _ .vmem, ⟨4, _⟩ => ⟨S1x1x64x384, .fp8e4m3⟩
  | .local _ .vmem, ⟨5, _⟩ => ⟨S1x1x64x384, .fp8e4m3⟩
  | .local _ .vmem, ⟨6, _⟩ => ⟨S1x8x64x384, .bf16⟩
  | .local _ .vmem, ⟨7, _⟩ => ⟨S1x8x64x384, .bf16⟩
  | .local _ .vmem, ⟨8, _⟩ => ⟨S1x8x384, .f32⟩
  | .local _ .vmem, ⟨9, _⟩ => ⟨S1x8x384, .f32⟩
  | .local _ .vmem, ⟨10, _⟩ => ⟨S1x8x64x384, .fp8e5m2⟩
  | .local _ .vmem, ⟨11, _⟩ => ⟨S1x8x64x384, .fp8e5m2⟩
  | .local _ .vmem, ⟨12, _⟩ => ⟨S3x384, .f32⟩
  | .local _ .vmem, ⟨13, _⟩ => ⟨S1x8x64x384, .bf16⟩
  | .local _ .vmem, ⟨14, _⟩ => ⟨S1x8x64x384, .bf16⟩
  | .local _ .vmem, ⟨15, _⟩ => ⟨S1x1x64x384, .bf16⟩
  | .local _ .vmem, ⟨16, _⟩ => ⟨S1x1x64x384, .bf16⟩
  | .local _ .vmem, ⟨17, _⟩ => ⟨S1x1x64x384, .bf16⟩
  | .local _ .vmem, ⟨18, _⟩ => ⟨S1x1x64x384, .bf16⟩
  | .local _ .vmem, ⟨19, _⟩ => ⟨S64x384, .f32⟩
  | .local _ .vmem, ⟨20, _⟩ => ⟨S64x384, .f32⟩
  | .local _ .smem, ⟨0, _⟩ => ⟨S32, .f32⟩
  | .local _ .smem, ⟨1, _⟩ => ⟨S4, .f32⟩
  | .local _ .smem, ⟨2, _⟩ => ⟨S4, .f32⟩
  | _, _ => ⟨S3x384x32x64, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev main_v5_2 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_scratch0 : Ref sig .tc := ⟨.vmem, 19, rfl⟩
abbrev cc0_scratch1 : Ref sig .tc := ⟨.vmem, 20, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨2, ![3, 4], ![false, false]⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 2 → Nat :=
  let arg0 : BitVec 32 := BitVec.ofNat 32 (i 0).val
  let v16 : Index := Scalar.indexCast arg0
  let c0_7 : Index := 0#32
  ![v16.toNat, 0]
def k0_off3 (i : grid0.Coords) (c0_i32 : BitVec 32) : Fin 1 → Nat :=
  let arg1 : BitVec 32 := BitVec.ofNat 32 (i 1).val
  let c8_i32 : BitVec 32 := 8#32
  let v29 : BitVec 32 := Scalar.muli arg1 c8_i32
  let v30 : BitVec 32 := Scalar.addi v29 c0_i32
  let v31 : Index := Scalar.indexCast v30
  ![v31.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .smem S32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x8x64x384 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x64x384 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x64x384 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x64x384 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x64x384 .fp8e5m2 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S3x384 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x8x64x384 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x64x384 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x64x384 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== KernelIdeal.lean ====
variable {F : FTy → Type} [FloatOps F] [Named F]
def κ : String → Option EReal := fun
  | "log2e" => some (((Real.log 2)⁻¹ : ℝ) : EReal)
  | "sm_log2e" => some (((1 / 8) * (Real.log 2)⁻¹ : ℝ) : EReal)
  | _ => none
-- ==== ReferenceIdeal.lean ====
abbrev S3x384x32x64 : Shape := ⟨4, ![3, 384, 32, 64]⟩
abbrev S32 : Shape := ⟨1, ![32]⟩
abbrev S3x384x4x64 : Shape := ⟨4, ![3, 384, 4, 64]⟩
abbrev S4 : Shape := ⟨1, ![4]⟩
abbrev S3x32x384 : Shape := ⟨3, ![3, 32, 384]⟩
abbrev S3x384 : Shape := ⟨2, ![3, 384]⟩
abbrev S3x384x4x8x64 : Shape := ⟨5, ![3, 384, 4, 8, 64]⟩
abbrev S4x8 : Shape := ⟨2, ![4, 8]⟩
abbrev S4x1 : Shape := ⟨2, ![4, 1]⟩
abbrev S_ : Shape := ⟨0, ![]⟩
abbrev S3x384x1x1 : Shape := ⟨4, ![3, 384, 1, 1]⟩
abbrev S3x4x8x384 : Shape := ⟨4, ![3, 4, 8, 384]⟩
abbrev S384 : Shape := ⟨1, ![384]⟩
abbrev S3x4x384x384x8 : Shape := ⟨5, ![3, 4, 384, 384, 8]⟩
abbrev S3x4x8x384x384 : Shape := ⟨5, ![3, 4, 8, 384, 384]⟩
abbrev S1x4x8x1x1 : Shape := ⟨5, ![1, 4, 8, 1, 1]⟩
abbrev S384x1 : Shape := ⟨2, ![384, 1]⟩
abbrev S1x384 : Shape := ⟨2, ![1, 384]⟩
abbrev S384x384 : Shape := ⟨2, ![384, 384]⟩
abbrev S3x4x8x384x1 : Shape := ⟨5, ![3, 4, 8, 384, 1]⟩
abbrev S3x1x1x384x1 : Shape := ⟨5, ![3, 1, 1, 384, 1]⟩
abbrev S1x4x1x1x1 : Shape := ⟨5, ![1, 4, 1, 1, 1]⟩
abbrev S3x4x1x384x1 : Shape := ⟨5, ![3, 4, 1, 384, 1]⟩
abbrev S1x1x4x1x1 : Shape := ⟨5, ![1, 1, 4, 1, 1]⟩
abbrev S3x4x64x8x384 : Shape := ⟨5, ![3, 4, 64, 8, 384]⟩
abbrev S1x1x32x1 : Shape := ⟨4, ![1, 1, 32, 1]⟩
abbrev S3x4x64x384 : Shape := ⟨4, ![3, 4, 64, 384]⟩

abbrev nBuf : Space → Nat
  | .hbm => 97
  | .vmem => 8
  | .smem => 0
  | _ => 0

abbrev bufTy : (tb : Table) → Fin (tcTables nBuf tb) → BufTy
  | .hbm, ⟨0, _⟩ => ⟨S3x384x32x64, .fp8e4m3⟩
  | .hbm, ⟨1, _⟩ => ⟨S32, .f32⟩
  | .hbm, ⟨2, _⟩ => ⟨S3x384x4x64, .fp8e4m3⟩
  | .hbm, ⟨3, _⟩ => ⟨S4, .f32⟩
  | .hbm, ⟨4, _⟩ => ⟨S3x384x4x64, .fp8e4m3⟩
  | .hbm, ⟨5, _⟩ => ⟨S4, .f32⟩
  | .hbm, ⟨6, _⟩ => ⟨S3x384x32x64, .bf16⟩
  | .hbm, ⟨7, _⟩ => ⟨S3x32x384, .f32⟩
  | .hbm, ⟨8, _⟩ => ⟨S3x384x32x64, .fp8e5m2⟩
  | .hbm, ⟨9, _⟩ => ⟨S3x384, .f32⟩
  | .hbm, ⟨10, _⟩ => ⟨S3x384x32x64, .bf16⟩
  | .hbm, ⟨11, _⟩ => ⟨S3x384x4x64, .bf16⟩
  | .hbm, ⟨12, _⟩ => ⟨S3x384x4x64, .bf16⟩
  | .hbm, ⟨13, _⟩ => ⟨S3x384x32x64, .bf16⟩
  | .hbm, ⟨14, _⟩ => ⟨S3x384x4x8x64, .bf16⟩
  | .hbm, ⟨15, _⟩ => ⟨S3x384x4x8x64, .bf16⟩
  | .hbm, ⟨16, _⟩ => ⟨S4x8, .f32⟩
  | .hbm, ⟨17, _⟩ => ⟨S4x1, .f32⟩
  | .hbm, ⟨18, _⟩ => ⟨S4x8, .f32⟩
  | .hbm, ⟨19, _⟩ => ⟨S4x8, .f32⟩
  | .hbm, ⟨20, _⟩ => ⟨S_, .f32⟩
  | .hbm, ⟨21, _⟩ => ⟨S4x8, .f32⟩
  | .hbm, ⟨22, _⟩ => ⟨S4x8, .f32⟩
  | .hbm, ⟨23, _⟩ => ⟨S3x384x32x64, .f32⟩
  | .hbm, ⟨24, _⟩ => ⟨S3x384x1x1, .f32⟩
  | .hbm, ⟨25, _⟩ => ⟨S3x384x32x64, .f32⟩
  | .hbm, ⟨26, _⟩ => ⟨S3x384x32x64, .f32⟩
  | .hbm, ⟨27, _⟩ => ⟨S3x384x4x8x64, .f32⟩
  | .hbm, ⟨28, _⟩ => ⟨S3x384x32x64, .f32⟩
  | .hbm, ⟨29, _⟩ => ⟨S3x384x4x8x64, .f32⟩
  | .hbm, ⟨30, _⟩ => ⟨S3x4x8x384, .f32⟩
  | .hbm, ⟨31, _⟩ => ⟨S3x4x8x384, .f32⟩
  | .hbm, ⟨32, _⟩ => ⟨S384, .i32⟩
  | .hbm, ⟨33, _⟩ => ⟨S3x4x384x384x8, .f32⟩
  | .hbm, ⟨34, _⟩ => ⟨S3x4x8x384x384, .f32⟩
  | .hbm, ⟨35, _⟩ => ⟨S1x4x8x1x1, .f32⟩
  | .hbm, ⟨36, _⟩ => ⟨S3x4x8x384x384, .f32⟩
  | .hbm, ⟨37, _⟩ => ⟨S3x4x8x384x384, .f32⟩
  | .hbm, ⟨38, _⟩ => ⟨S384x1, .i32⟩
  | .hbm, ⟨39, _⟩ => ⟨S1x384, .i32⟩
  | .hbm, ⟨40, _⟩ => ⟨S384x384, .i32⟩
  | .hbm, ⟨41, _⟩ => ⟨S384x384, .i32⟩
  | .hbm, ⟨42, _⟩ => ⟨S384x384, .i1⟩
  | .hbm, ⟨43, _⟩ => ⟨S_, .f32⟩
  | .hbm, ⟨44, _⟩ => ⟨S_, .f32⟩
  | .hbm, ⟨45, _⟩ => ⟨S3x4x8x384x384, .i1⟩
  | .hbm, ⟨46, _⟩ => ⟨S3x4x8x384x384, .f32⟩
  | .hbm, ⟨47, _⟩ => ⟨S3x4x8x384x384, .f32⟩
  | .hbm, ⟨48, _⟩ => ⟨S3x4x8x384x1, .f32⟩
  | .hbm, ⟨49, _⟩ => ⟨S3x4x8x384x384, .f32⟩
  | .hbm, ⟨50, _⟩ => ⟨S3x4x8x384x384, .f32⟩
  | .hbm, ⟨51, _⟩ => ⟨S3x4x8x384x384, .f32⟩
  | .hbm, ⟨52, _⟩ => ⟨S3x4x384x384x8, .f32⟩
  | .hbm, ⟨53, _⟩ => ⟨S3x4x8x384x384, .f32⟩
  | .hbm, ⟨54, _⟩ => ⟨S3x1x1x384x1, .f32⟩
  | .hbm, ⟨55, _⟩ => ⟨S1x4x1x1x1, .f32⟩
  | .hbm, ⟨56, _⟩ => ⟨S3x4x1x384x1, .f32⟩
  | .hbm, ⟨57, _⟩ => ⟨S3x4x1x384x1, .f32⟩
  | .hbm, ⟨58, _⟩ => ⟨S3x4x1x384x1, .f32⟩
  | .hbm, ⟨59, _⟩ => ⟨S3x4x8x384x384, .f32⟩
  | .hbm, ⟨60, _⟩ => ⟨S3x4x8x384x384, .f32⟩
  | .hbm, ⟨61, _⟩ => ⟨S3x4x8x384x1, .f32⟩
  | .hbm, ⟨62, _⟩ => ⟨S3x4x8x384x384, .f32⟩
  | .hbm, ⟨63, _⟩ => ⟨S3x4x8x384x384, .f32⟩
  | .hbm, ⟨64, _⟩ => ⟨S3x4x8x384x384, .f32⟩
  | .hbm, ⟨65, _⟩ => ⟨S_, .f32⟩
  | .hbm, ⟨66, _⟩ => ⟨S4, .f32⟩
  | .hbm, ⟨67, _⟩ => ⟨S4, .f32⟩
  | .hbm, ⟨68, _⟩ => ⟨S1x1x4x1x1, .f32⟩
  | .hbm, ⟨69, _⟩ => ⟨S3x4x8x384x384, .bf16⟩
  | .hbm, ⟨70, _⟩ => ⟨S3x4x64x8x384, .f32⟩
  | .hbm, ⟨71, _⟩ => ⟨S3x384x4x8x64, .f32⟩
  | .hbm, ⟨72, _⟩ => ⟨S3x384x4x8x64, .f32⟩
  | .hbm, ⟨73, _⟩ => ⟨S3x384x4x8x64, .f32⟩
  | .hbm, ⟨74, _⟩ => ⟨S3x384x4x8x64, .bf16⟩
  | .hbm, ⟨75, _⟩ => ⟨S3x384x32x64, .bf16⟩
  | .hbm, ⟨76, _⟩ => ⟨S32, .bf16⟩
  | .hbm, ⟨77, _⟩ => ⟨S1x1x32x1, .bf16⟩
  | .hbm, ⟨78, _⟩ => ⟨S3x384x32x64, .bf16⟩
  | .hbm, ⟨79, _⟩ => ⟨S3x384x32x64, .bf16⟩
  | .hbm, ⟨80, _⟩ => ⟨S3x384x4x8x64, .bf16⟩
  | .hbm, ⟨81, _⟩ => ⟨S3x384, .bf16⟩
  | .hbm, ⟨82, _⟩ => ⟨S3x384x1x1, .bf16⟩
  | .hbm, ⟨83, _⟩ => ⟨S3x384x32x64, .bf16⟩
  | .hbm, ⟨84, _⟩ => ⟨S3x384x32x64, .bf16⟩
  | .hbm, ⟨85, _⟩ => ⟨S3x384x4x8x64, .bf16⟩
  | .hbm, ⟨86, _⟩ => ⟨S3x4x8x384x384, .bf16⟩
  | .hbm, ⟨87, _⟩ => ⟨S3x4x64x384, .f32⟩
  | .hbm, ⟨88, _⟩ => ⟨S3x384x4x64, .f32⟩
  | .hbm, ⟨89, _⟩ => ⟨S_, .f32⟩
  | .hbm, ⟨90, _⟩ => ⟨S3x384x4x64, .f32⟩
  | .hbm, ⟨91, _⟩ => ⟨S3x384x4x64, .f32⟩
  | .hbm, ⟨92, _⟩ => ⟨S3x4x8x384x384, .bf16⟩
  | .hbm, ⟨93, _⟩ => ⟨S3x4x64x384, .f32⟩
  | .hbm, ⟨94, _⟩ => ⟨S3x384x4x64, .f32⟩
  | .hbm, ⟨95, _⟩ => ⟨S3x384x4x64, .bf16⟩
  | .hbm, ⟨96, _⟩ => ⟨S3x384x4x64, .bf16⟩
  | .local _ .vmem, ⟨0, _⟩ => ⟨S3x384x32x64, .fp8e4m3⟩
  | .local _ .vmem, ⟨1, _⟩ => ⟨S3x384x4x64, .fp8e4m3⟩
  | .local _ .vmem, ⟨2, _⟩ => ⟨S3x384x4x64, .fp8e4m3⟩
  | .local _ .vmem, ⟨3, _⟩ => ⟨S3x384x32x64, .fp8e5m2⟩
  | .local _ .vmem, ⟨4, _⟩ => ⟨S3x384x32x64, .bf16⟩
  | .local _ .vmem, ⟨5, _⟩ => ⟨S3x384x4x64, .bf16⟩
  | .local _ .vmem, ⟨6, _⟩ => ⟨S3x384x4x64, .bf16⟩
  | .local _ .vmem, ⟨7, _⟩ => ⟨S3x384x32x64, .bf16⟩
  | _, _ => ⟨S3x384x32x64, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_0 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_1 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_cst_2 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S3x384x32x64 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x384x4x64 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x384x4x64 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x384x32x64 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x384x32x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x384x4x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x384x4x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3x384x32x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Scale.lean ====
/- The precondition, and the two named constants. -/
module

public import proofs.«01_k».proof.Defs
public import Idealize.ShloMosaic.Lib.Pointwise

@[expose] public section

noncomputable section

namespace Cert.Scale

open Idealize.ShloMosaic Idealize.ShloMosaic.TcCoe

/-- The side condition the precondition states. -/
theorem facts : Cert.Pre_scale_ok.Facts := ⟨by decide⟩

/-- The word that stands for plus infinity. -/
theorem ofBits_inf : Ideal.ofBits .f32 0x7F800000#32 = ⊤ := by
  simp [Ideal.ofBits, Ideal.ieee]

/-- The two comparisons of the precondition, joined. -/
theorem of_words (x : EReal) (e : IntOp.andi (BitVec.ofBool (decide (0 ≤ x))) (BitVec.ofBool (decide (x < ⊤))) = 1#1) :
    0 ≤ x ∧ x ≠ ⊤ := by
  by_cases a : 0 ≤ x <;> by_cases b : x < ⊤ <;> simp [a, b, IntOp.andi] at e
  exact ⟨a, ne_of_lt b⟩

/-- Under the precondition every scale of the output gradient is finite and not negative. -/
theorem of_pre [hp : Cert.Pre_scale_ok.Facts] (m : (ℓ : Loc Cert.KernelIdeal.nD Cert.KernelIdeal.τ Cert.KernelIdeal.sig) → Buf (Elt Ideal) ℓ)
    (h : Cert.Pre_KernelIdeal_scale_ok m) (c : Dev Cert.KernelIdeal.nD) (i : (⟨2, ![3, 384]⟩ : Shape).Idx) :
    (0 : EReal) ≤ m ((c : Thread Cert.KernelIdeal.nD Cert.KernelIdeal.τ).loc Cert.KernelIdeal.main_arg9) i
    ∧ m ((c : Thread Cert.KernelIdeal.nD Cert.KernelIdeal.τ).loc Cert.KernelIdeal.main_arg9) i ≠ (⊤ : EReal) := by
  have e := congrFun (h c) i
  simp only [Cert.Pre_scale_ok.fn] at e
  pointwise at e
  rw [ofBits_inf] at e
  exact of_words _ e

/-- The ideal program's two named constants: its table gives `log2e` the value `1 / ln 2` and `sm_log2e` the value
    `(1 / 8) / ln 2`, and the printed constants are those values over the extended reals. -/
theorem preserves : Cert.preserves_Kernel_KernelIdeal :=
  ⟨IdealRules.named_const.statement Cert.KernelIdeal.κ "log2e" .f32 0x3FB8AA3B#32 _ rfl,
    IdealRules.named_const.statement Cert.KernelIdeal.κ "sm_log2e" .f32 0x3E38AA3B#32 _ rfl⟩

end Cert.Scale
-- ==== Proof.Model.lean ====
/- The mathematics both programs are brought to: one key/value head of one batch element, its eight query heads, and the
   three gradients of causal attention there, as sums over extended reals. Nothing here mentions a program. -/
module

public import Idealize.ShloMosaic.PureOps.Ideal
public import Idealize.ShloMosaic.PureOps.Ideal.Laws

@[expose] public section

noncomputable section

namespace Cert.Model

open Idealize.ShloMosaic

/-- What one key/value head of one batch element reads: the query, output-gradient and output rows of its eight query
    heads (head, feature, position), its key and value rows (feature, position), the scales of the query heads, of the
    keys and of the values, the logarithm of the softmax denominator (head, position) and the scale of the output
    gradient (position). -/
structure Grp where
  q : Fin 8 → Fin 64 → Fin 384 → EReal
  dO : Fin 8 → Fin 64 → Fin 384 → EReal
  o : Fin 8 → Fin 64 → Fin 384 → EReal
  k : Fin 64 → Fin 384 → EReal
  v : Fin 64 → Fin 384 → EReal
  qs : Fin 8 → EReal
  ks : EReal
  vs : EReal
  lse : Fin 8 → Fin 384 → EReal
  dos : Fin 384 → EReal

/-- The softmax scale, as both programs write it. -/
def sm : EReal := Ideal.ofBits .f32 0x3E000000#32

/-- It is one eighth. -/
theorem sm_eq : sm = ((1 / 8 : ℝ) : EReal) := by
  unfold sm; simp [Ideal.ofBits, Ideal.ieee, -EReal.coe_mul]; norm_num

namespace Grp

variable (G : Grp)

/-- The unscaled score of query position `i` against key position `j`. -/
def score (r : Fin 8) (j i : Fin 384) : EReal := ∑ d, G.k d j * G.q r d i

/-- The probability of key position `j` for query position `i`: zero above the diagonal. -/
def p (r : Fin 8) (j i : Fin 384) : EReal :=
  if j ≤ i then Ideal.exp (G.score r j i * (G.qs r * G.ks * sm) - G.lse r i) else 0

/-- The gradient that reaches the probability. -/
def dp (r : Fin 8) (j i : Fin 384) : EReal := (∑ d, G.v d j * G.dO r d i) * (G.dos i * G.vs)

/-- The row sum of the output against its gradient. -/
def delta (r : Fin 8) (i : Fin 384) : EReal := ∑ d, G.dO r d i * G.dos i * G.o r d i

/-- The gradient of the scaled score. -/
def ds (r : Fin 8) (j i : Fin 384) : EReal := G.p r j i * (G.dp r j i - G.delta r i)

/-- The gradient of the query. -/
def dq (r : Fin 8) (d : Fin 64) (i : Fin 384) : EReal := (∑ j, G.k d j * G.ds r j i) * (G.ks * sm)

/-- The gradient of the key. -/
def dk (d : Fin 64) (j : Fin 384) : EReal := (∑ i, ∑ r, G.q r d i * G.qs r * G.ds r j i) * sm

/-- The gradient of the value. -/
def dv (d : Fin 64) (j : Fin 384) : EReal := ∑ i, ∑ r, G.dO r d i * G.dos i * G.p r j i

end Grp

/-! ## The kernel's spelling of the same numbers -/

/-- Distributing a finite nonnegative factor over a sum. -/
theorem sum_mul_of_nonneg {ι : Type} (s : Finset ι) (f : ι → EReal) {c : EReal} (h0 : 0 ≤ c) (h1 : c ≠ ⊤) :
    (∑ d ∈ s, f d) * c = ∑ d ∈ s, f d * c := by
  classical
  induction s using Finset.induction_on with
  | empty => simp
  | insert a s ha ih =>
    rw [Finset.sum_insert ha, Finset.sum_insert ha, EReal.right_distrib_of_nonneg_of_ne_top h0 h1, ih]

/-- The row sum with the scale taken out, as the kernel forms it, is the reference's where the scale is a nonnegative
    number. -/
theorem Grp.delta_eq (G : Grp) (r : Fin 8) (i : Fin 384) (h0 : 0 ≤ G.dos i) (h1 : G.dos i ≠ ⊤) :
    (∑ d, G.dO r d i * G.o r d i) * G.dos i = G.delta r i := by
  rw [sum_mul_of_nonneg _ _ h0 h1]
  exact Finset.sum_congr rfl fun d _ => mul_right_comm _ _ _

/-- A power of two of a logarithm to base two is the exponential. -/
theorem exp2_mul_inv_log (x : EReal) : Ideal.exp2 (x * (((Real.log 2)⁻¹ : ℝ) : EReal)) = Ideal.exp x := by
  have hl : 0 < Real.log 2 := Real.log_pos one_lt_two
  have hc : 0 < (Real.log 2)⁻¹ := inv_pos.mpr hl
  induction x with
  | bot => rw [EReal.bot_mul_coe_of_pos hc]; rfl
  | top => rw [EReal.top_mul_coe_of_pos hc]; rfl
  | coe x =>
    rw [← EReal.coe_mul]
    show ((Real.rpow 2 (x * (Real.log 2)⁻¹) : ℝ) : EReal) = ((Real.exp x : ℝ) : EReal)
    congr 1
    show (2 : ℝ) ^ (x * (Real.log 2)⁻¹) = Real.exp x
    rw [Real.rpow_def_of_pos two_pos]
    congr 1
    field_simp

/-- The kernel's exponent: score times its scale in base two, less the denominator's logarithm in base two. -/
theorem exp2_scores (s a l : EReal) :
    Ideal.exp2 (s * (a * (((1 / 8) * (Real.log 2)⁻¹ : ℝ) : EReal)) - l * (((Real.log 2)⁻¹ : ℝ) : EReal))
      = Ideal.exp (s * (a * sm) - l) := by
  have hc : (0 : ℝ) ≤ (Real.log 2)⁻¹ := (inv_pos.mpr (Real.log_pos one_lt_two)).le
  rw [← exp2_mul_inv_log, sm_eq, EReal.coe_mul, ← mul_assoc a, ← mul_assoc s, sub_eq_add_neg, sub_eq_add_neg,
    ← EReal.neg_mul, EReal.right_distrib_of_nonneg_of_ne_top (by exact_mod_cast hc) (EReal.coe_ne_top _)]

/-- The kernel's masked probability is the model's. -/
theorem Grp.p_of (G : Grp) (r : Fin 8) {j i : Fin 384} {P : Prop} [Decidable P] (h : P ↔ j ≤ i) :
    (if P then Ideal.exp2 (G.score r j i * (G.qs r * G.ks * (((1 / 8) * (Real.log 2)⁻¹ : ℝ) : EReal))
        - G.lse r i * (((Real.log 2)⁻¹ : ℝ) : EReal)) else 0) = G.p r j i := by
  unfold Grp.p
  rw [exp2_scores]
  simp only [h]

/-- The kernel's probability where nothing is masked is the model's. -/
theorem Grp.p_of_le (G : Grp) (r : Fin 8) {j i : Fin 384} (h : j ≤ i) :
    Ideal.exp2 (G.score r j i * (G.qs r * G.ks * (((1 / 8) * (Real.log 2)⁻¹ : ℝ) : EReal))
        - G.lse r i * (((Real.log 2)⁻¹ : ℝ) : EReal)) = G.p r j i :=
  (if_pos trivial).symm.trans (G.p_of r (iff_of_true trivial h))

/-- A sum over all keys is the sum over the keys up to a bound that no later key passes. -/
theorem sum_fin_le {n m : ℕ} (h : m ≤ n) (f : Fin n → EReal) (hz : ∀ j : Fin n, m ≤ j.val → f j = 0) :
    ∑ j : Fin m, f (Fin.castLE h j) = ∑ j, f j := by
  obtain ⟨e, rfl⟩ := Nat.exists_eq_add_of_le h
  rw [Fin.sum_univ_add, Finset.sum_eq_zero (s := Finset.univ) (f := fun i => f (Fin.natAdd m i))
    (fun i _ => hz _ (by simp)), add_zero]
  rfl

/-- Above the diagonal the probability is zero. -/
theorem Grp.p_of_lt (G : Grp) (r : Fin 8) {j i : Fin 384} (h : i < j) : G.p r j i = 0 :=
  if_neg (not_le.mpr h)

/-- Above the diagonal the gradient of the scaled score is zero. -/
theorem Grp.ds_of_lt (G : Grp) (r : Fin 8) {j i : Fin 384} (h : i < j) : G.ds r j i = 0 := by
  unfold Grp.ds
  rw [G.p_of_lt r h, zero_mul]

/-- The query gradient needs the keys up to its position only. -/
theorem Grp.dq_of (G : Grp) (r : Fin 8) (d : Fin 64) (i : Fin 384) {m : ℕ} (hm : m ≤ 384) (hi : i.val < m) :
    (∑ x : Fin m, G.k d ⟨x.val, by omega⟩ * G.ds r ⟨x.val, by omega⟩ i) * (G.ks * sm) = G.dq r d i := by
  unfold Grp.dq
  rw [← sum_fin_le hm (fun j => G.k d j * G.ds r j i)
    fun j hj => by rw [G.ds_of_lt r (Fin.lt_def.mpr (by omega)), mul_zero]]
  rfl

end Cert.Model

end
-- ==== Proof.Groups.lean ====
/- The arguments of one batch element and key/value head, and the three results as functions of the ten arguments. -/
module

public import proofs.«01_k».proof.Proof.Model
public import Idealize.ShloMosaic.Lib.Pointwise.Index

@[expose] public section

noncomputable section

namespace Cert.Model

open Idealize.ShloMosaic

/-- The ten arguments: queries and their scales, keys, values, the forward output, the logarithms of the softmax
    denominators, the output gradient and its scales. -/
@[ext] structure Args where
  q : (⟨4, ![3, 384, 32, 64]⟩ : Shape).Idx → EReal
  qs : (⟨1, ![32]⟩ : Shape).Idx → EReal
  k : (⟨4, ![3, 384, 4, 64]⟩ : Shape).Idx → EReal
  ks : (⟨1, ![4]⟩ : Shape).Idx → EReal
  v : (⟨4, ![3, 384, 4, 64]⟩ : Shape).Idx → EReal
  vs : (⟨1, ![4]⟩ : Shape).Idx → EReal
  o : (⟨4, ![3, 384, 32, 64]⟩ : Shape).Idx → EReal
  lse : (⟨3, ![3, 32, 384]⟩ : Shape).Idx → EReal
  dO : (⟨4, ![3, 384, 32, 64]⟩ : Shape).Idx → EReal
  dos : (⟨2, ![3, 384]⟩ : Shape).Idx → EReal

/-- Query head `r` of key/value head `g`. -/
def head (g : Fin 4) (r : Fin 8) : Fin 32 := ⟨g.val * 8 + r.val, by omega⟩

/-- The arguments of batch element `b` and key/value head `g`. -/
def Args.grp (A : Args) (b : Fin 3) (g : Fin 4) : Grp where
  q r d i := A.q (ix4 b i (head g r) d)
  dO r d i := A.dO (ix4 b i (head g r) d)
  o r d i := A.o (ix4 b i (head g r) d)
  k d j := A.k (ix4 b j g d)
  v d j := A.v (ix4 b j g d)
  qs r := A.qs (ix1 (head g r))
  ks := A.ks (ix1 g)
  vs := A.vs (ix1 g)
  lse r i := A.lse (ix3 b (head g r) i)
  dos i := A.dos (ix2 b i)

/-- The key/value head of a query head. -/
def group (h : Fin 32) : Fin 4 := ⟨h.val / 8, by omega⟩
/-- The place of a query head in its group. -/
def member (h : Fin 32) : Fin 8 := ⟨h.val % 8, by omega⟩

/-- The query gradient. -/
def Args.dq (A : Args) : (⟨4, ![3, 384, 32, 64]⟩ : Shape).Idx → EReal :=
  fun y => (A.grp (y 0) (group (y 2))).dq (member (y 2)) (y 3) (y 1)
/-- The key gradient. -/
def Args.dk (A : Args) : (⟨4, ![3, 384, 4, 64]⟩ : Shape).Idx → EReal := fun y => (A.grp (y 0) (y 2)).dk (y 3) (y 1)
/-- The value gradient. -/
def Args.dv (A : Args) : (⟨4, ![3, 384, 4, 64]⟩ : Shape).Idx → EReal := fun y => (A.grp (y 0) (y 2)).dv (y 3) (y 1)

/-- A query head is found again from its group. -/
theorem group_head (g : Fin 4) (r : Fin 8) : group (head g r) = g := Fin.ext (by simp only [group, head]; omega)
/-- … and its place. -/
theorem member_head (g : Fin 4) (r : Fin 8) : member (head g r) = r := Fin.ext (by simp only [member, head]; omega)

/-- The query gradient of head `head g r` is that of group `g` at place `r`. -/
theorem Args.dq_head (A : Args) (b : Fin 3) (g : Fin 4) (r : Fin 8) (d : Fin 64) (i : Fin 384) :
    A.dq (ix4 b i (head g r) d) = (A.grp b g).dq r d i := by
  show (A.grp b (group (head g r))).dq (member (head g r)) d i = _
  rw [group_head, member_head]

end Cert.Model
-- ==== Proof.Loads.lean ====
/- What the kernel body reads for one key/value head of one batch element, as the vectors it loads, and the words it forms
   from them head by head: the rows of queries, keys, values and output gradients, the row sums, and the base-two logarithms
   of the softmax denominators. Each is read at an index as a term of the mathematics of `Model`. -/
module

public import proofs.«01_k».proof.Proof.Model
public import proofs.«01_k».proof.Proof.Gen.KernelIdeal.Skeleton
public import Idealize.ShloMosaic.Lib.Pointwise
public import Idealize.ShloMosaic.Lib.Tactic
public import Idealize.ShloMosaic.Lib.WordCmp

@[expose] public section

set_option maxRecDepth 16384

noncomputable section

namespace Cert.KernelIdeal.Val

open Idealize.ShloMosaic Idealize.ShloMosaic.TcCoe Cert.KernelIdeal.Gen Cert.Model

/-- The vectors the body loads: the scales of keys and values, the output gradient's scale per position, the keys, the
    values, and per query head its scale, its queries (whole, and by tiles of 128 positions), its output gradient, its
    output and the logarithm of its softmax denominator. -/
structure Loads where
  ks : Ideal .f32
  vs : Ideal .f32
  dos : Vec Ideal S1x384 .f32
  k : Vec Ideal S1x1x64x384 .fp8e4m3
  v : Vec Ideal S1x1x64x384 .fp8e4m3
  qs : Fin 8 → Ideal .f32
  q : Fin 8 → Vec Ideal S1x1x64x384 .fp8e4m3
  qt : Fin 3 → Fin 8 → Vec Ideal S1x1x64x128 .fp8e4m3
  dO : Fin 8 → Vec Ideal S1x1x64x384 .fp8e5m2
  o : Fin 8 → Vec Ideal S1x1x64x384 .bf16
  lse : Fin 8 → Vec Ideal S1x1x384 .f32

/-- Position `c` of tile `t` of 128 positions. -/
def pos (t : Fin 3) (c : Fin 128) : Fin 384 := ⟨128 * t.val + c.val, by omega⟩

/-- The loaded vectors hold the numbers of `G`, and the scale of the output gradient is a nonnegative number. -/
structure Loads.Ok (L : Loads) (G : Grp) : Prop where
  ks : L.ks = G.ks
  vs : L.vs = G.vs
  dos : ∀ i, L.dos (ix2 0 i) = G.dos i
  k : ∀ d j, L.k (ix4 0 0 d j) = G.k d j
  v : ∀ d j, L.v (ix4 0 0 d j) = G.v d j
  qs : ∀ r, L.qs r = G.qs r
  q : ∀ r d i, L.q r (ix4 0 0 d i) = G.q r d i
  qt : ∀ t r d c, L.qt t r (ix4 0 0 d c) = G.q r d (pos t c)
  dO : ∀ r d i, L.dO r (ix4 0 0 d i) = G.dO r d i
  o : ∀ r d i, L.o r (ix4 0 0 d i) = G.o r d i
  lse : ∀ r i, L.lse r (ix3 0 0 i) = G.lse r i
  dos_nonneg : ∀ i, 0 ≤ G.dos i
  dos_ne_top : ∀ i, G.dos i ≠ ⊤

namespace Loads

variable (L : Loads)

/-- The keys, features by positions. -/
abbrev kT : FVec Ideal S64x384 .bf16 := k0_pay4 L.k
/-- The keys, positions by features. -/
abbrev kR : FVec Ideal S384x64 .fp8e4m3 := k0_pay5 L.k
/-- The values, positions by features. -/
abbrev vR : FVec Ideal S384x64 .bf16 := k0_pay6 L.v
/-- The output gradient's scale times the value scale. -/
abbrev dpv : FVec Ideal S1x384 .f32 := k0_pay8 L.vs L.dos
/-- The scaled queries of head `r`. -/
abbrev qw (r : Fin 8) : FVec Ideal S64x384 .bf16 := k0_pay11 (L.qs r) (L.q r)
/-- The output gradient of head `r`, unscaled. -/
abbrev dw0 (r : Fin 8) : FVec Ideal S64x384 .bf16 := k0_pay13 (L.dO r)
/-- The scaled output gradient of head `r`. -/
abbrev dw (r : Fin 8) : FVec Ideal S64x384 .bf16 := k0_pay15 (k0_pay7 L.dos) (L.dO r)
/-- The row sums of head `r`. -/
abbrev delta (r : Fin 8) : FVec Ideal S1x384 .f32 := k0_pay17 L.dos (L.dO r) (L.o r)
/-- The base-two logarithm of the softmax denominator of head `r`. -/
abbrev lse2 (r : Fin 8) : FVec Ideal S1x384 .f32 := k0_pay21 (L.lse r)

variable {L} {G : Grp} (H : L.Ok G)
include H

/-- The widened keys, dimensions before positions. -/
theorem kT_at (d : Fin 64) (j : Fin 384) : L.kT (ix2 d j) = G.k d j := by
  unfold kT k0_pay4; pointwise; exact H.k d j

/-- The keys with rows and columns exchanged, as the score products read them. -/
theorem kR_at (j : Fin 384) (d : Fin 64) : L.kR (ix2 j d) = G.k d j := by
  unfold kR k0_pay5 k0_pay4; pointwise; exact H.k d j

/-- The values with rows and columns exchanged. -/
theorem vR_at (j : Fin 384) (d : Fin 64) : L.vR (ix2 j d) = G.v d j := by
  unfold vR k0_pay6; pointwise; exact H.v d j

/-- The factor of the value product: the gradient scale times the value scale. -/
theorem dpv_at (i : Fin 384) : L.dpv (ix2 0 i) = G.dos i * G.vs := by
  unfold dpv k0_pay8; pointwise; rw [H.dos, H.vs]

/-- The queries of head `r` times their scale. -/
theorem qw_at (r : Fin 8) (d : Fin 64) (i : Fin 384) : L.qw r (ix2 d i) = G.q r d i * G.qs r := by
  unfold qw k0_pay11; pointwise; rw [H.q, H.qs]

/-- The output gradient of head `r`, widened. -/
theorem dw0_at (r : Fin 8) (d : Fin 64) (i : Fin 384) : L.dw0 r (ix2 d i) = G.dO r d i := by
  unfold dw0 k0_pay13; pointwise; exact H.dO r d i

/-- The output gradient of head `r` times its scale. -/
theorem dw_at (r : Fin 8) (d : Fin 64) (i : Fin 384) : L.dw r (ix2 d i) = G.dO r d i * G.dos i := by
  unfold dw k0_pay15 k0_pay7 k0_pay13; pointwise; rw [H.dO, H.dos]

/-- The row sums of head `r`: the scale is taken out of the sum, which is where it must be finite and not negative. -/
theorem delta_at (r : Fin 8) (i : Fin 384) : L.delta r (ix2 0 i) = G.delta r i := by
  unfold delta k0_pay17 k0_pay13; pointwise
  simp only [H.dO, H.o, H.dos]
  exact G.delta_eq r i (H.dos_nonneg i) (H.dos_ne_top i)

/-- The logarithms of the softmax denominators of head `r`, in base two. -/
theorem lse2_at (r : Fin 8) (i : Fin 384) : L.lse2 r (ix2 0 i) = G.lse r i * (((Real.log 2)⁻¹ : ℝ) : EReal) := by
  unfold lse2 k0_pay21; pointwise
  rw [H.lse]; rfl

end Loads

/-! ## The masks -/

/-- The modulus the program computes is 128. -/
theorem modulus : Scalar.select (Scalar.cmpi CmpIPredicate.eq 128#32 0#32) 1#32 128#32 = 128#32 := by decide

/-- The position of column `n` within its half, as the word the program computes. -/
abbrev colWord (n : ℕ) : BitVec 32 := Scalar.select
    (IntOp.andi
      (IntOp.xori (IntOp.cmpi .slt (IntOp.remsi .vector (BitVec.ofNat 32 n) 128#32) 0#32)
        (Scalar.cmpi .slt 128#32 0#32))
      (IntOp.cmpi .ne (IntOp.remsi .vector (BitVec.ofNat 32 n) 128#32) 0#32))
    (IntOp.addi (IntOp.remsi .vector (BitVec.ofNat 32 n) 128#32) 128#32)
    (IntOp.remsi .vector (BitVec.ofNat 32 n) 128#32)

/-- In the first half it is the column. -/
theorem colWord_lo : ∀ c : Fin 128, colWord c.val = BitVec.ofNat 32 c.val := by decide +kernel

/-- In the second half it is the column less 128. -/
theorem colWord_hi : ∀ c : Fin 128, colWord (128 + c.val) = BitVec.ofNat 32 c.val := by decide +kernel

/-- The program's mask of an entry: the entry where the row is not past the column's position, zero elsewhere. -/
theorem mask_at (j c : ℕ) (hj : j < 128) (hc : c < 128) (x : EReal) :
    Scalar.select (IntOp.cmpi .sle (BitVec.ofNat 32 j) (BitVec.ofNat 32 c)) x 0 = if j ≤ c then x else 0 := by
  rw [WordCmp.cmpi_sle_ofNat (by omega) (by omega)]
  by_cases h : j ≤ c <;> simp [h, Scalar.select]

/-- A position of the first tile. -/
theorem pos_0 (c : Fin 128) : pos 0 c = ⟨c.val, by omega⟩ := Fin.ext (by simp [pos])
/-- A position of the second tile. -/
theorem pos_1 (c : Fin 128) : pos 1 c = ⟨128 + c.val, by omega⟩ := Fin.ext (by simp [pos])
/-- A position of the third tile. -/
theorem pos_2 (c : Fin 128) : pos 2 c = ⟨256 + c.val, by omega⟩ := Fin.ext (by simp [pos])

/-- What tile `t` of query head `r` adds to the value gradient. -/
def dvTerm (G : Grp) (t : Fin 3) (r : Fin 8) (d : Fin 64) (j : Fin 384) : EReal :=
  ∑ c : Fin 128, G.dO r d (pos t c) * G.dos (pos t c) * G.p r j (pos t c)

/-- What tile `t` of query head `r` adds to the key gradient, before its scale. -/
def dkTerm (G : Grp) (t : Fin 3) (r : Fin 8) (d : Fin 64) (j : Fin 384) : EReal :=
  ∑ c : Fin 128, G.q r d (pos t c) * G.qs r * G.ds r j (pos t c)

end Cert.KernelIdeal.Val

end
-- ==== Proof.Env.lean ====
/- What one grid point's body runs on, and the vectors its loads read. -/
module

public import proofs.«01_k».proof.Proof.Loads
public import proofs.«01_k».proof.Proof.Gen.KernelIdeal.Frame.RunA

@[expose] public section

set_option maxRecDepth 16384

noncomputable section

namespace Cert.KernelIdeal.Val

open Idealize.ShloMosaic Idealize.ShloMosaic.TcCoe Cert.KernelIdeal Cert.KernelIdeal.Gen Cert.Model

/-- The core, the grid point, the body's buffers, each a whole one, and what its ten inputs hold. -/
structure Env where
  c : Dev nD
  i : grid0.Coords
  arg2 : Memref sig .tc .smem S32 .f32
  harg2 : arg2.IsWhole
  arg3 : Memref sig .tc .smem S4 .f32
  harg3 : arg3.IsWhole
  arg4 : Memref sig .tc .smem S4 .f32
  harg4 : arg4.IsWhole
  arg5 : Memref sig .tc .vmem S1x8x64x384 .fp8e4m3
  harg5 : arg5.IsWhole
  arg6 : Memref sig .tc .vmem S1x1x64x384 .fp8e4m3
  harg6 : arg6.IsWhole
  arg7 : Memref sig .tc .vmem S1x1x64x384 .fp8e4m3
  harg7 : arg7.IsWhole
  arg8 : Memref sig .tc .vmem S1x8x64x384 .bf16
  harg8 : arg8.IsWhole
  arg9 : Memref sig .tc .vmem S1x8x384 .f32
  harg9 : arg9.IsWhole
  arg10 : Memref sig .tc .vmem S1x8x64x384 .fp8e5m2
  harg10 : arg10.IsWhole
  arg11 : Memref sig .tc .vmem S3x384 .f32
  harg11 : arg11.IsWhole
  arg12 : Memref sig .tc .vmem S1x8x64x384 .bf16
  harg12 : arg12.IsWhole
  arg13 : Memref sig .tc .vmem S1x1x64x384 .bf16
  harg13 : arg13.IsWhole
  arg14 : Memref sig .tc .vmem S1x1x64x384 .bf16
  harg14 : arg14.IsWhole
  arg15 : Memref sig .tc .vmem S64x384 .f32
  harg15 : arg15.IsWhole
  arg16 : Memref sig .tc .vmem S64x384 .f32
  harg16 : arg16.IsWhole
  x0 : Vec Ideal S32 .f32
  x1 : Vec Ideal S4 .f32
  x2 : Vec Ideal S4 .f32
  x3 : Vec Ideal S1x8x64x384 .fp8e4m3
  x4 : Vec Ideal S1x1x64x384 .fp8e4m3
  x5 : Vec Ideal S1x1x64x384 .fp8e4m3
  x6 : Vec Ideal S1x8x64x384 .bf16
  x7 : Vec Ideal S1x8x384 .f32
  x8 : Vec Ideal S1x8x64x384 .fp8e5m2
  x9 : Vec Ideal S3x384 .f32

/-- The rows of head `r` lie in the block. -/
theorem row_inb (r : Fin 8) : ∀ a, (![0, r.val, 0, 0] : Fin 4 → Nat) a + S1x1x64x384.size a ≤ S1x8x64x384.size a := by
  revert r; decide

/-- Tile `t` of head `r` lies in the block. -/
theorem tile_inb (t : Fin 3) (r : Fin 8) :
    ∀ a, (![0, r.val, 0, 128 * t.val] : Fin 4 → Nat) a + S1x1x64x128.size a ≤ S1x8x64x384.size a := by
  revert t r; decide

/-- The logarithms of head `r` lie in their block. -/
theorem lse_inb (r : Fin 8) : ∀ a, (![0, r.val, 0] : Fin 3 → Nat) a + S1x1x384.size a ≤ S1x8x384.size a := by
  revert r; decide

variable (E : Env)

/-- The vectors the body loads. -/
def Env.loads : Loads where
  ks := View.readAt (Elt Ideal) E.arg3.view (Rect.unit (s := S4) (k0_off1 E.i) S1.size (k0_off1_inb E.i)).toLoadRect
    (E.harg3.unread E.x1) (Shape.Idx.first (show 0 < S1.numel by decide))
  vs := View.readAt (Elt Ideal) E.arg4.view (Rect.unit (s := S4) (k0_off1 E.i) S1.size (k0_off1_inb E.i)).toLoadRect
    (E.harg4.unread E.x2) (Shape.Idx.first (show 0 < S1.numel by decide))
  dos := View.readAt (Elt Ideal) E.arg11.view (Rect.unit (s := S3x384) (k0_off2 E.i) S1x384.size (k0_off2_inb E.i)).toLoadRect
    (E.harg11.unread E.x9)
  k := View.readAt (Elt Ideal) E.arg6.view (Rect.unit (s := S1x1x64x384) ![0, 0, 0, 0] S1x1x64x384.size (by decide)).toLoadRect
    (E.harg6.unread E.x4)
  v := View.readAt (Elt Ideal) E.arg7.view (Rect.unit (s := S1x1x64x384) ![0, 0, 0, 0] S1x1x64x384.size (by decide)).toLoadRect
    (E.harg7.unread E.x5)
  qs r := View.readAt (Elt Ideal) E.arg2.view
    (Rect.unit (s := S32) (k0_off3 E.i (BitVec.ofNat 32 r.val)) S1.size (k0_off3_inb E.i r)).toLoadRect
    (E.harg2.unread E.x0) (Shape.Idx.first (show 0 < S1.numel by decide))
  q r := View.readAt (Elt Ideal) E.arg5.view
    (Rect.unit (s := S1x8x64x384) ![0, r.val, 0, 0] S1x1x64x384.size (row_inb r)).toLoadRect (E.harg5.unread E.x3)
  qt t r := View.readAt (Elt Ideal) E.arg5.view
    (Rect.unit (s := S1x8x64x384) ![0, r.val, 0, 128 * t.val] S1x1x64x128.size (tile_inb t r)).toLoadRect (E.harg5.unread E.x3)
  dO r := View.readAt (Elt Ideal) E.arg10.view
    (Rect.unit (s := S1x8x64x384) ![0, r.val, 0, 0] S1x1x64x384.size (row_inb r)).toLoadRect (E.harg10.unread E.x8)
  o r := View.readAt (Elt Ideal) E.arg8.view
    (Rect.unit (s := S1x8x64x384) ![0, r.val, 0, 0] S1x1x64x384.size (row_inb r)).toLoadRect (E.harg8.unread E.x6)
  lse r := View.readAt (Elt Ideal) E.arg9.view
    (Rect.unit (s := S1x8x384) ![0, r.val, 0] S1x1x384.size (lse_inb r)).toLoadRect (E.harg9.unread E.x7)

end Cert.KernelIdeal.Val
-- ==== Proof.Ok.lean ====
/- What the body's loads read, at an index: the inputs of the grid point at batch element `i 0` and key/value head `i 1`. -/
module

public import proofs.«01_k».proof.Proof.Env

@[expose] public section

set_option maxRecDepth 16384

noncomputable section

namespace Cert.KernelIdeal.Val

open Idealize.ShloMosaic Idealize.ShloMosaic.TcCoe Cert.KernelIdeal Cert.KernelIdeal.Gen Cert.Model

/-- The scale of keys and values is read at the key/value head. -/
theorem off1_eq (i : grid0.Coords) : k0_off1 i 0 = (i 1).val := by
  have : (i 1).val < 4 := (i 1).isLt
  unfold k0_off1
  simp [Scalar.indexCast]
  omega

/-- The gradient scales are read at the batch element. -/
theorem off2_eq (i : grid0.Coords) : k0_off2 i 0 = (i 0).val := by
  have : (i 0).val < 3 := (i 0).isLt
  unfold k0_off2
  simp [Scalar.indexCast]
  omega

/-- The query scale is read at head `r` of the group. -/
theorem off3_eq (i : grid0.Coords) (r : Fin 8) : k0_off3 i (BitVec.ofNat 32 r.val) 0 = (i 1).val * 8 + r.val := by
  have : (i 1).val < 4 := (i 1).isLt
  unfold k0_off3
  simp [Scalar.indexCast, Scalar.muli, Scalar.addi, IntOp.muli, IntOp.addi]
  omega

/-- The inputs of a grid point hold the numbers of `G`. -/
structure Env.Holds (E : Env) (G : Grp) : Prop where
  qs : ∀ r : Fin 8, E.x0 (ix1 ⟨(E.i 1).val * 8 + r.val, by have : (E.i 1).val < 4 := (E.i 1).isLt; omega⟩) = G.qs r
  ks : E.x1 (ix1 (E.i 1)) = G.ks
  vs : E.x2 (ix1 (E.i 1)) = G.vs
  q : ∀ r d i, E.x3 (ix4 0 r d i) = G.q r d i
  k : ∀ d j, E.x4 (ix4 0 0 d j) = G.k d j
  v : ∀ d j, E.x5 (ix4 0 0 d j) = G.v d j
  o : ∀ r d i, E.x6 (ix4 0 r d i) = G.o r d i
  lse : ∀ r i, E.x7 (ix3 0 r i) = G.lse r i
  dO : ∀ r d i, E.x8 (ix4 0 r d i) = G.dO r d i
  dos : ∀ i, E.x9 (ix2 (E.i 0) i) = G.dos i
  dos_nonneg : ∀ i, 0 ≤ G.dos i
  dos_ne_top : ∀ i, G.dos i ≠ ⊤

variable {E : Env} {G : Grp}

/-- A load of head `r`. -/
theorem read_row (r : Fin 8) (d : Fin 64) (i : Fin 384) :
    (Rect.unit (s := S1x8x64x384) ![0, r.val, 0, 0] S1x1x64x384.size (row_inb r)).idx (ix4 0 0 d i) = ix4 0 r d i := by
  funext a
  match a with
  | ⟨0, _⟩ => rfl
  | ⟨1, _⟩ => exact Fin.ext (show r.val + 1 * 0 = r.val by omega)
  | ⟨2, _⟩ => exact Fin.ext (show 0 + 1 * d.val = d.val by omega)
  | ⟨3, _⟩ => exact Fin.ext (show 0 + 1 * i.val = i.val by omega)

/-- A load of tile `t` of head `r`. -/
theorem read_tile (t : Fin 3) (r : Fin 8) (d : Fin 64) (c : Fin 128) :
    (Rect.unit (s := S1x8x64x384) ![0, r.val, 0, 128 * t.val] S1x1x64x128.size (tile_inb t r)).idx (ix4 0 0 d c)
      = ix4 0 r d (pos t c) := by
  funext a
  match a with
  | ⟨0, _⟩ => rfl
  | ⟨1, _⟩ => exact Fin.ext (show r.val + 1 * 0 = r.val by omega)
  | ⟨2, _⟩ => exact Fin.ext (show 0 + 1 * d.val = d.val by omega)
  | ⟨3, _⟩ => exact Fin.ext (show 128 * t.val + 1 * c.val = 128 * t.val + c.val by omega)

/-- A load of the logarithms of head `r`. -/
theorem read_lse (r : Fin 8) (i : Fin 384) :
    (Rect.unit (s := S1x8x384) ![0, r.val, 0] S1x1x384.size (lse_inb r)).idx (ix3 0 0 i) = ix3 0 r i := by
  funext a
  match a with
  | ⟨0, _⟩ => rfl
  | ⟨1, _⟩ => exact Fin.ext (show r.val + 1 * 0 = r.val by omega)
  | ⟨2, _⟩ => exact Fin.ext (show 0 + 1 * i.val = i.val by omega)

/-- A load of the one key/value head. -/
theorem read_head (d : Fin 64) (i : Fin 384) :
    (Rect.unit (s := S1x1x64x384) ![0, 0, 0, 0] S1x1x64x384.size (by decide)).idx (ix4 0 0 d i) = ix4 0 0 d i := by
  funext a
  match a with
  | ⟨0, _⟩ => rfl
  | ⟨1, _⟩ => rfl
  | ⟨2, _⟩ => exact Fin.ext (show 0 + 1 * d.val = d.val by omega)
  | ⟨3, _⟩ => exact Fin.ext (show 0 + 1 * i.val = i.val by omega)

/-- A load of the gradient scales of one batch element. -/
theorem read_dos (i : grid0.Coords) (x : Fin 384) :
    (Rect.unit (s := S3x384) (k0_off2 i) S1x384.size (k0_off2_inb i)).idx (ix2 0 x) = ix2 (i 0) x := by
  funext a
  match a with
  | ⟨0, _⟩ => exact Fin.ext (show k0_off2 i 0 + 1 * 0 = (i 0).val by rw [off2_eq]; omega)
  | ⟨1, _⟩ => exact Fin.ext (show 0 + 1 * x.val = x.val by omega)

/-- A load of the scale of one key/value head. -/
theorem read_scale (i : grid0.Coords) :
    (Rect.unit (s := S4) (k0_off1 i) S1.size (k0_off1_inb i)).idx (Shape.Idx.first (show 0 < S1.numel by decide))
      = ix1 (i 1) := by
  funext a
  match a with
  | ⟨0, _⟩ => exact Fin.ext (show k0_off1 i 0 + 1 * 0 = (i 1).val by rw [off1_eq]; omega)

/-- A load of the scale of query head `r` of the group. -/
theorem read_qs (i : grid0.Coords) (r : Fin 8) :
    (Rect.unit (s := S32) (k0_off3 i (BitVec.ofNat 32 r.val)) S1.size (k0_off3_inb i r)).idx
        (Shape.Idx.first (show 0 < S1.numel by decide))
      = ix1 ⟨(i 1).val * 8 + r.val, by have : (i 1).val < 4 := (i 1).isLt; omega⟩ := by
  funext a
  match a with
  | ⟨0, _⟩ =>
    exact Fin.ext (show k0_off3 i (BitVec.ofNat 32 r.val) 0 + 1 * 0 = (i 1).val * 8 + r.val by rw [off3_eq]; omega)

/-- Then so do the vectors the body loads. -/
theorem Env.Holds.ok (h : E.Holds G) : E.loads.Ok G where
  ks := by
    unfold Env.loads; dsimp only
    rw [View.readAt_eq_ld, E.harg3.read_unread]
    exact (congrArg E.x1 (read_scale E.i)).trans h.ks
  vs := by
    unfold Env.loads; dsimp only
    rw [View.readAt_eq_ld, E.harg4.read_unread]
    exact (congrArg E.x2 (read_scale E.i)).trans h.vs
  dos i := by
    unfold Env.loads; dsimp only
    rw [View.readAt_eq_ld, E.harg11.read_unread]
    exact (congrArg E.x9 (read_dos E.i i)).trans (h.dos i)
  k d j := by
    unfold Env.loads; dsimp only
    rw [View.readAt_eq_ld, E.harg6.read_unread]
    exact (congrArg E.x4 (read_head d j)).trans (h.k d j)
  v d j := by
    unfold Env.loads; dsimp only
    rw [View.readAt_eq_ld, E.harg7.read_unread]
    exact (congrArg E.x5 (read_head d j)).trans (h.v d j)
  qs r := by
    unfold Env.loads; dsimp only
    rw [View.readAt_eq_ld, E.harg2.read_unread]
    exact (congrArg E.x0 (read_qs E.i r)).trans (h.qs r)
  q r d i := by
    unfold Env.loads; dsimp only
    rw [View.readAt_eq_ld, E.harg5.read_unread]
    exact (congrArg E.x3 (read_row r d i)).trans (h.q r d i)
  qt t r d c := by
    unfold Env.loads; dsimp only
    rw [View.readAt_eq_ld, E.harg5.read_unread]
    exact (congrArg E.x3 (read_tile t r d c)).trans (h.q r d _)
  dO r d i := by
    unfold Env.loads; dsimp only
    rw [View.readAt_eq_ld, E.harg10.read_unread]
    exact (congrArg E.x8 (read_row r d i)).trans (h.dO r d i)
  o r d i := by
    unfold Env.loads; dsimp only
    rw [View.readAt_eq_ld, E.harg8.read_unread]
    exact (congrArg E.x6 (read_row r d i)).trans (h.o r d i)
  lse r i := by
    unfold Env.loads; dsimp only
    rw [View.readAt_eq_ld, E.harg9.read_unread]
    exact (congrArg E.x7 (read_lse r i)).trans (h.lse r i)
  dos_nonneg := h.dos_nonneg
  dos_ne_top := h.dos_ne_top

end Cert.KernelIdeal.Val
-- ==== Proof.Entry.lean ====
/- What each grid point's input blocks hold, as entries of the ten arguments. -/
module

public import proofs.«01_k».proof.Proof.Groups
public import proofs.«01_k».proof.Proof.Ok
public import Idealize.ShloMosaic.Lib.Pipeline.Value
public import Idealize.ShloMosaic.Lib.Pipeline.ValueKit
public import Idealize.ShloMosaic.Lib.StableHlo.RunRead
public import Idealize.ShloMosaic.Lib.StableHlo.ReadAt

@[expose] public section

set_option maxRecDepth 16384

noncomputable section

namespace Cert.KernelIdeal.Val

open Idealize.ShloMosaic Idealize.ShloMosaic.TcCoe Cert.KernelIdeal Cert.KernelIdeal.Gen Cert.Model

variable (m : (ℓ : Loc nD τ sig) → Buf (Elt Ideal) ℓ)

/-- The ten arguments, as core `c` holds them. -/
def args (c : Dev nD) : Args where
  q := m ((c : Thread nD τ).loc main_arg0)
  qs := m ((c : Thread nD τ).loc main_arg1)
  k := m ((c : Thread nD τ).loc main_arg2)
  ks := m ((c : Thread nD τ).loc main_arg3)
  v := m ((c : Thread nD τ).loc main_arg4)
  vs := m ((c : Thread nD τ).loc main_arg5)
  o := m ((c : Thread nD τ).loc main_arg6)
  lse := m ((c : Thread nD τ).loc main_arg7)
  dO := m ((c : Thread nD τ).loc main_arg8)
  dos := m ((c : Thread nD τ).loc main_arg9)

/-- What the body runs on at grid point `t`. -/
def env (c : Dev nD) (t : Fin cfg0.N) : Env :=
  ⟨c, grid0.coords t, ms0_0 t, hs0_0 t, ms0_1 t, hs0_1 t, ms0_2 t, hs0_2 t, ms0_3 t, hs0_3 t, ms0_4 t, hs0_4 t, ms0_5 t, hs0_5 t, ms0_6 t, hs0_6 t, ms0_7 t, hs0_7 t, ms0_8 t, hs0_8 t, ms0_9 t, hs0_9 t, ms0_10 t, hs0_10 t, ms0_11 t, hs0_11 t, ms0_12 t, hs0_12 t, scM0_0, Memref.isWhole_whole _, scM0_1,
    Memref.isWhole_whole _, iblk m c 0 t, iblk m c 1 t, iblk m c 2 t, iblk m c 3 t, iblk m c 4 t, iblk m c 5 t, iblk m c 6 t, iblk m c 7 t, iblk m c 8 t, iblk m c 9 t⟩

/-- The query at entry to the grid: dimensions before positions. -/
theorem v0_at (c : Dev nD) (b : Fin 3) (h : Fin 32) (d : Fin 64) (i : Fin 384) :
    V m c main_v0 (ix4 b h d i) = (args m c).q (ix4 b i h d) := by
  show StableHlo.after _ _ (Proc.devRef .tc main_v0) _ = _
  after_reads_at
  rfl
/-- The argument `k` at entry to the grid: dimensions before positions. -/
theorem v1_at (c : Dev nD) (b : Fin 3) (h : Fin 4) (d : Fin 64) (i : Fin 384) :
    V m c main_v1 (ix4 b h d i) = (args m c).k (ix4 b i h d) := by
  show StableHlo.after _ _ (Proc.devRef .tc main_v1) _ = _
  after_reads_at
  rfl
/-- The argument `v` at entry to the grid: dimensions before positions. -/
theorem v2_at (c : Dev nD) (b : Fin 3) (h : Fin 4) (d : Fin 64) (i : Fin 384) :
    V m c main_v2 (ix4 b h d i) = (args m c).v (ix4 b i h d) := by
  show StableHlo.after _ _ (Proc.devRef .tc main_v2) _ = _
  after_reads_at
  rfl
/-- The argument `o` at entry to the grid: dimensions before positions. -/
theorem v3_at (c : Dev nD) (b : Fin 3) (h : Fin 32) (d : Fin 64) (i : Fin 384) :
    V m c main_v3 (ix4 b h d i) = (args m c).o (ix4 b i h d) := by
  show StableHlo.after _ _ (Proc.devRef .tc main_v3) _ = _
  after_reads_at
  rfl
/-- The argument `dO` at entry to the grid: dimensions before positions. -/
theorem v4_at (c : Dev nD) (b : Fin 3) (h : Fin 32) (d : Fin 64) (i : Fin 384) :
    V m c main_v4 (ix4 b h d i) = (args m c).dO (ix4 b i h d) := by
  show StableHlo.after _ _ (Proc.devRef .tc main_v4) _ = _
  after_reads_at
  rfl

/-- Where window 0's block lies, in blocks. -/
theorem idx0 : ∀ t, win0_0.index t = ![0] := by decide +kernel

/-- Where window 1's block lies, in blocks. -/
theorem idx1 : ∀ t, win0_1.index t = ![0] := by decide +kernel

/-- Where window 2's block lies, in blocks. -/
theorem idx2 : ∀ t, win0_2.index t = ![0] := by decide +kernel

/-- Where window 3's block lies, in blocks. -/
theorem idx3 : ∀ t, win0_3.index t = ![(grid0.coords t 0).val, (grid0.coords t 1).val, 0, 0] := by decide +kernel

/-- Where window 4's block lies, in blocks. -/
theorem idx4 : ∀ t, win0_4.index t = ![(grid0.coords t 0).val, (grid0.coords t 1).val, 0, 0] := by decide +kernel

/-- Where window 5's block lies, in blocks. -/
theorem idx5 : ∀ t, win0_5.index t = ![(grid0.coords t 0).val, (grid0.coords t 1).val, 0, 0] := by decide +kernel

/-- Where window 6's block lies, in blocks. -/
theorem idx6 : ∀ t, win0_6.index t = ![(grid0.coords t 0).val, (grid0.coords t 1).val, 0, 0] := by decide +kernel

/-- Where window 7's block lies, in blocks. -/
theorem idx7 : ∀ t, win0_7.index t = ![(grid0.coords t 0).val, (grid0.coords t 1).val, 0] := by decide +kernel

/-- Where window 8's block lies, in blocks. -/
theorem idx8 : ∀ t, win0_8.index t = ![(grid0.coords t 0).val, (grid0.coords t 1).val, 0, 0] := by decide +kernel

/-- Where window 9's block lies, in blocks. -/
theorem idx9 : ∀ t, win0_9.index t = ![0, 0] := by decide +kernel

/-- Where window 10's block lies, in blocks. -/
theorem idx10 : ∀ t, win0_10.index t = ![(grid0.coords t 0).val, (grid0.coords t 1).val, 0, 0] := by decide +kernel

/-- Where window 11's block lies, in blocks. -/
theorem idx11 : ∀ t, win0_11.index t = ![(grid0.coords t 0).val, (grid0.coords t 1).val, 0, 0] := by decide +kernel

/-- Where window 12's block lies, in blocks. -/
theorem idx12 : ∀ t, win0_12.index t = ![(grid0.coords t 0).val, (grid0.coords t 1).val, 0, 0] := by decide +kernel

/-- The batch element of grid point `t`. -/
def batch (t : Fin cfg0.N) : Fin 3 := grid0.coords t 0
/-- The key/value head of grid point `t`. -/
def kv (t : Fin cfg0.N) : Fin 4 := grid0.coords t 1

/-- Grid point `t`'s block of `qs`. -/
theorem iblk0_at (c : Dev nD) (t : Fin cfg0.N) (r : Fin 8) : iblk m c 0 t (ix1 (head (kv t) r)) = (args m c).qs (ix1 (head (kv t) r)) := by
  show _ = m ((c : Thread nD τ).loc main_arg1) _
  rw [← V_main_arg1 m c]
  blk_ext [iblk, idx0, batch, kv, head]

/-- Grid point `t`'s block of `ks`. -/
theorem iblk1_at (c : Dev nD) (t : Fin cfg0.N)  : iblk m c 1 t (ix1 (kv t)) = (args m c).ks (ix1 (kv t)) := by
  show _ = m ((c : Thread nD τ).loc main_arg3) _
  rw [← V_main_arg3 m c]
  blk_ext [iblk, idx1, batch, kv, head]

/-- Grid point `t`'s block of `vs`. -/
theorem iblk2_at (c : Dev nD) (t : Fin cfg0.N)  : iblk m c 2 t (ix1 (kv t)) = (args m c).vs (ix1 (kv t)) := by
  show _ = m ((c : Thread nD τ).loc main_arg5) _
  rw [← V_main_arg5 m c]
  blk_ext [iblk, idx2, batch, kv, head]

/-- Grid point `t`'s block of `q`. -/
theorem iblk3_at (c : Dev nD) (t : Fin cfg0.N) (r : Fin 8)(d : Fin 64)(i : Fin 384) : iblk m c 3 t (ix4 0 r d i) = (args m c).q (ix4 (batch t) i (head (kv t) r) d) := by
  rw [← v0_at]
  blk_ext [iblk, idx3, batch, kv, head]

/-- Grid point `t`'s block of `k`. -/
theorem iblk4_at (c : Dev nD) (t : Fin cfg0.N) (d : Fin 64)(i : Fin 384) : iblk m c 4 t (ix4 0 0 d i) = (args m c).k (ix4 (batch t) i (kv t) d) := by
  rw [← v1_at]
  blk_ext [iblk, idx4, batch, kv, head]

/-- Grid point `t`'s block of `v`. -/
theorem iblk5_at (c : Dev nD) (t : Fin cfg0.N) (d : Fin 64)(i : Fin 384) : iblk m c 5 t (ix4 0 0 d i) = (args m c).v (ix4 (batch t) i (kv t) d) := by
  rw [← v2_at]
  blk_ext [iblk, idx5, batch, kv, head]

/-- Grid point `t`'s block of `o`. -/
theorem iblk6_at (c : Dev nD) (t : Fin cfg0.N) (r : Fin 8)(d : Fin 64)(i : Fin 384) : iblk m c 6 t (ix4 0 r d i) = (args m c).o (ix4 (batch t) i (head (kv t) r) d) := by
  rw [← v3_at]
  blk_ext [iblk, idx6, batch, kv, head]

/-- Grid point `t`'s block of `lse`. -/
theorem iblk7_at (c : Dev nD) (t : Fin cfg0.N) (r : Fin 8)(i : Fin 384) : iblk m c 7 t (ix3 0 r i) = (args m c).lse (ix3 (batch t) (head (kv t) r) i) := by
  show _ = m ((c : Thread nD τ).loc main_arg7) _
  rw [← V_main_arg7 m c]
  blk_ext [iblk, idx7, batch, kv, head]

/-- Grid point `t`'s block of `dO`. -/
theorem iblk8_at (c : Dev nD) (t : Fin cfg0.N) (r : Fin 8)(d : Fin 64)(i : Fin 384) : iblk m c 8 t (ix4 0 r d i) = (args m c).dO (ix4 (batch t) i (head (kv t) r) d) := by
  rw [← v4_at]
  blk_ext [iblk, idx8, batch, kv, head]

/-- Grid point `t`'s block of `dos`. -/
theorem iblk9_at (c : Dev nD) (t : Fin cfg0.N) (i : Fin 384) : iblk m c 9 t (ix2 (batch t) i) = (args m c).dos (ix2 (batch t) i) := by
  show _ = m ((c : Thread nD τ).loc main_arg9) _
  rw [← V_main_arg9 m c]
  blk_ext [iblk, idx9, batch, kv, head]

/-- At grid point `t` the inputs hold the arguments of its batch element and key/value head. -/
theorem holds (c : Dev nD) (t : Fin cfg0.N) (h0 : ∀ i, 0 ≤ (args m c).dos i) (h1 : ∀ i, (args m c).dos i ≠ ⊤) :
    (env m c t).Holds ((args m c).grp (batch t) (kv t)) where
  qs r := iblk0_at m c t r
  ks := iblk1_at m c t
  vs := iblk2_at m c t
  q r d i := iblk3_at m c t r d i
  k d i := iblk4_at m c t d i
  v d i := iblk5_at m c t d i
  o r d i := iblk6_at m c t r d i
  lse r i := iblk7_at m c t r i
  dO r d i := iblk8_at m c t r d i
  dos i := iblk9_at m c t i
  dos_nonneg i := h0 _
  dos_ne_top i := h1 _

end Cert.KernelIdeal.Val
-- ==== Proof.Block0.lean ====
/- The first block of 128 query positions of a pair of query heads: what the body's words for it hold at an index. A word of 256
   columns holds the first head of the pair in its first 128 columns and the second in the others. -/
module

public import proofs.«01_k».proof.Proof.Loads

@[expose] public section

set_option maxRecDepth 16384

noncomputable section

namespace Cert.KernelIdeal.Val

open Idealize.ShloMosaic Idealize.ShloMosaic.TcCoe Cert.KernelIdeal.Gen Cert.Model

namespace Loads

variable (L : Loads) (a b : Fin 8)

/-- The unscaled scores. -/
abbrev s0 : FVec Ideal S128x256 .f32 := k0_pay23 L.kR (L.qt 0 a) (L.qt 0 b)
/-- The unscaled products of values and output gradients. -/
abbrev g0 : FVec Ideal S128x256 .f32 := k0_pay24 L.vR (L.dw0 a) (L.dw0 b)
/-- The probabilities, before they are rounded. -/
abbrev e0 : FVec Ideal S128x256 .f32 := k0_pay27 L.ks (L.qs a) (L.qs b) (L.lse2 a) (L.lse2 b) (L.s0 a b)
/-- The probabilities. -/
abbrev p0 : FVec Ideal S128x256 .bf16 := k0_pay30 (L.e0 a b)
/-- The gradient of the scaled scores. -/
abbrev ds0 : FVec Ideal S128x256 .bf16 :=
  k0_pay31 (L.e0 a b) (k0_pay28 L.dpv (L.g0 a b)) (k0_pay29 (L.delta a) (L.delta b))

variable {L a b} {G : Grp} (H : L.Ok G)
include H

/-- Query tile 0: the probabilities of the first head of the pair, in the left columns. -/
theorem p0_lo (j c : Fin 128) : L.p0 a b (ix2 j ⟨c.val, by omega⟩) = G.p a ⟨j.val, by omega⟩ (pos 0 c) := by
  unfold p0 k0_pay30 e0 k0_pay27 s0 k0_pay23
  pointwise
  simp only [modulus, colWord_lo, mask_at _ _ j.isLt c.isLt, kR_at H, lse2_at H, H.qt, H.qs, H.ks, pos_0]
  exact G.p_of a Iff.rfl

/-- … and of the second head, in the right columns. -/
theorem p0_hi (j c : Fin 128) : L.p0 a b (ix2 j ⟨128 + c.val, by omega⟩) = G.p b ⟨j.val, by omega⟩ (pos 0 c) := by
  unfold p0 k0_pay30 e0 k0_pay27 s0 k0_pay23
  pointwise
  simp only [modulus, colWord_hi, mask_at _ _ j.isLt c.isLt, kR_at H, lse2_at H, H.qt, H.qs, H.ks, pos_0]
  exact G.p_of b Iff.rfl

/-- Query tile 0: the score gradients of the first head. -/
theorem ds0_lo (j c : Fin 128) : L.ds0 a b (ix2 j ⟨c.val, by omega⟩) = G.ds a ⟨j.val, by omega⟩ (pos 0 c) := by
  have hp := p0_lo (a := a) (b := b) H j c
  unfold p0 k0_pay30 at hp
  unfold ds0 k0_pay31 k0_pay28 k0_pay29 g0 k0_pay24
  pointwise
  pointwise at hp
  rw [hp]
  simp only [vR_at H, dw0_at H, dpv_at H, delta_at H, pos_0]
  rfl

/-- … and of the second head. -/
theorem ds0_hi (j c : Fin 128) : L.ds0 a b (ix2 j ⟨128 + c.val, by omega⟩) = G.ds b ⟨j.val, by omega⟩ (pos 0 c) := by
  have hp := p0_hi (a := a) (b := b) H j c
  unfold p0 k0_pay30 at hp
  unfold ds0 k0_pay31 k0_pay28 k0_pay29 g0 k0_pay24
  pointwise
  pointwise at hp
  rw [hp]
  simp only [vR_at H, dw0_at H, dpv_at H, delta_at H, pos_0]
  rfl

/-- Query tile 0: the query gradient of the first head; key positions past the tile add nothing. -/
theorem dq0_lo (d : Fin 64) (c : Fin 128) :
    k0_pay43 L.ks L.kT (L.ds0 a b) (ix4 0 0 d c) = G.dq a d (pos 0 c) := by
  unfold k0_pay43 k0_pay42
  pointwise
  simp only [ds0_lo H, kT_at H, H.ks]
  exact G.dq_of a d (pos 0 c) (by omega) (by rw [pos_0]; exact c.isLt)

/-- … and of the second head. -/
theorem dq0_hi (d : Fin 64) (c : Fin 128) :
    k0_pay44 L.ks L.kT (L.ds0 a b) (ix4 0 0 d c) = G.dq b d (pos 0 c) := by
  unfold k0_pay44 k0_pay42
  pointwise
  simp only [ds0_hi H, kT_at H, H.ks]
  exact G.dq_of b d (pos 0 c) (by omega) (by rw [pos_0]; exact c.isLt)

/-- Query tile 0: what it adds to the value gradient accumulator. -/
theorem dv0_at (acc : Vec Ideal S64x128 .f32) (d : Fin 64) (j : Fin 128) :
    k0_pay46 (k0_pay45 (L.dw a) (L.dw b) (L.p0 a b) acc) (ix2 d j)
      = acc (ix2 d j) + (dvTerm G 0 a d ⟨j.val, by omega⟩ + dvTerm G 0 b d ⟨j.val, by omega⟩) := by
  unfold k0_pay46 k0_pay45 dvTerm
  pointwise
  simp only [p0_lo H, p0_hi H, dw_at H, pos_0]

/-- Query tile 0: what it adds to the key gradient accumulator. -/
theorem dk0_at (acc : Vec Ideal S64x128 .f32) (d : Fin 64) (j : Fin 128) :
    k0_pay47 (L.qw a) (L.qw b) (L.ds0 a b) acc (ix2 d j)
      = acc (ix2 d j) + (dkTerm G 0 a d ⟨j.val, by omega⟩ + dkTerm G 0 b d ⟨j.val, by omega⟩) := by
  unfold k0_pay47 dkTerm
  pointwise
  simp only [ds0_lo H, ds0_hi H, qw_at H, pos_0]

end Loads

end Cert.KernelIdeal.Val

end
-- ==== Proof.Block1.lean ====
/- The second of the three tiles of positions: keys up to 256 against positions 128 to 256, two query heads side by side. -/
module

public import proofs.«01_k».proof.Proof.Loads

@[expose] public section

set_option maxRecDepth 16384

noncomputable section

namespace Cert.KernelIdeal.Val

open Idealize.ShloMosaic Idealize.ShloMosaic.TcCoe Cert.KernelIdeal.Gen Cert.Model

namespace Loads

variable (L : Loads) (a b : Fin 8)

/-- The unscaled scores. -/
abbrev s1 : FVec Ideal S256x256 .f32 := k0_pay25 L.kR (L.qt 1 a) (L.qt 1 b)
/-- The unscaled products of values and output gradients. -/
abbrev g1 : FVec Ideal S256x256 .f32 := k0_pay26 L.vR (L.dw0 a) (L.dw0 b)
/-- The probabilities, before they are masked and rounded. -/
abbrev e1 : FVec Ideal S256x256 .f32 := k0_pay34 L.ks (L.qs a) (L.qs b) (L.lse2 a) (L.lse2 b) (L.s1 a b)
/-- The probabilities. -/
abbrev p1 : FVec Ideal S256x256 .bf16 := k0_pay40 (L.e1 a b) (iota .tc S128x256 32 [0] iota_S128x256_d0_w32) 128#32 k0_pay35 k0_pay36 k0_pay37 k0_pay38
/-- The gradient of the scaled scores. -/
abbrev ds1 : FVec Ideal S256x256 .bf16 :=
  k0_pay41 L.dpv (L.delta a) (L.delta b) (L.g1 a b) (L.e1 a b) (iota .tc S128x256 32 [0] iota_S128x256_d0_w32) 128#32 k0_pay35 k0_pay36 k0_pay37 k0_pay38

variable {L a b} {G : Grp} (H : L.Ok G)
include H

/-- Query tile 1: the probabilities of the first head of the pair, in the left columns. -/
theorem p1_lo (j : Fin 256) (c : Fin 128) :
    L.p1 a b (ix2 j ⟨c.val, by omega⟩) = G.p a ⟨j.val, by omega⟩ (pos 1 c) := by
  unfold p1 k0_pay40 k0_pay39 e1 k0_pay34 s1 k0_pay25 k0_pay36 k0_pay37 k0_pay38 k0_pay35
  pointwise
  simp only [modulus, colWord_lo, kR_at H, lse2_at H, H.qt, H.qs, H.ks, pos_1]
  by_cases h : j.val < 128
  · rw [dif_pos h]
    exact G.p_of_le a (Fin.le_def.mpr (by dsimp only; omega))
  · rw [dif_neg h, mask_at _ _ (by omega) c.isLt]
    simp only [Nat.add_sub_cancel' (not_lt.mp h)]
    exact G.p_of a (by rw [Fin.le_def]; dsimp only; omega)

/-- … and of the second head, in the right columns. -/
theorem p1_hi (j : Fin 256) (c : Fin 128) :
    L.p1 a b (ix2 j ⟨128 + c.val, by omega⟩) = G.p b ⟨j.val, by omega⟩ (pos 1 c) := by
  unfold p1 k0_pay40 k0_pay39 e1 k0_pay34 s1 k0_pay25 k0_pay36 k0_pay37 k0_pay38 k0_pay35
  pointwise
  simp only [modulus, colWord_hi, kR_at H, lse2_at H, H.qt, H.qs, H.ks, pos_1]
  by_cases h : j.val < 128
  · rw [dif_pos h]
    exact G.p_of_le b (Fin.le_def.mpr (by dsimp only; omega))
  · rw [dif_neg h, mask_at _ _ (by omega) c.isLt]
    simp only [Nat.add_sub_cancel' (not_lt.mp h)]
    exact G.p_of b (by rw [Fin.le_def]; dsimp only; omega)

/-- Query tile 1: the score gradients of the first head. -/
theorem ds1_lo (j : Fin 256) (c : Fin 128) :
    L.ds1 a b (ix2 j ⟨c.val, by omega⟩) = G.ds a ⟨j.val, by omega⟩ (pos 1 c) := by
  have hp := p1_lo (a := a) (b := b) H j c
  unfold p1 k0_pay40 at hp
  unfold ds1 k0_pay41 g1 k0_pay26
  pointwise
  pointwise at hp
  rw [hp]
  simp only [vR_at H, dw0_at H, dpv_at H, delta_at H, pos_1]
  rfl

/-- … and of the second head. -/
theorem ds1_hi (j : Fin 256) (c : Fin 128) :
    L.ds1 a b (ix2 j ⟨128 + c.val, by omega⟩) = G.ds b ⟨j.val, by omega⟩ (pos 1 c) := by
  have hp := p1_hi (a := a) (b := b) H j c
  unfold p1 k0_pay40 at hp
  unfold ds1 k0_pay41 g1 k0_pay26
  pointwise
  pointwise at hp
  rw [hp]
  simp only [vR_at H, dw0_at H, dpv_at H, delta_at H, pos_1]
  rfl

/-- Query tile 1: the query gradient of the first head; key positions past the tile add nothing. -/
theorem dq1_lo (d : Fin 64) (c : Fin 128) :
    k0_pay67 L.ks L.kT (L.ds1 a b) (ix4 0 0 d c) = G.dq a d (pos 1 c) := by
  unfold k0_pay67 k0_pay66
  pointwise
  simp only [ds1_lo H, kT_at H, H.ks]
  exact G.dq_of a d (pos 1 c) (by omega) (by rw [pos_1]; dsimp only; omega)

/-- … and of the second head. -/
theorem dq1_hi (d : Fin 64) (c : Fin 128) :
    k0_pay68 L.ks L.kT (L.ds1 a b) (ix4 0 0 d c) = G.dq b d (pos 1 c) := by
  unfold k0_pay68 k0_pay66
  pointwise
  simp only [ds1_hi H, kT_at H, H.ks]
  exact G.dq_of b d (pos 1 c) (by omega) (by rw [pos_1]; dsimp only; omega)

/-- Query tile 1: what it adds to the value gradient accumulator. -/
theorem dv1_at (acc : Vec Ideal S64x256 .f32) (d : Fin 64) (j : Fin 256) :
    k0_pay69 (L.dw a) (L.dw b) (L.p1 a b) acc (ix2 d j)
      = acc (ix2 d j) + (dvTerm G 1 a d ⟨j.val, by omega⟩ + dvTerm G 1 b d ⟨j.val, by omega⟩) := by
  unfold k0_pay69 dvTerm
  pointwise
  simp only [p1_lo H, p1_hi H, dw_at H, pos_1]

/-- Query tile 1: what it adds to the key gradient accumulator. -/
theorem dk1_at (acc : Vec Ideal S64x256 .f32) (d : Fin 64) (j : Fin 256) :
    k0_pay70 (L.qw a) (L.qw b) (L.ds1 a b) acc (ix2 d j)
      = acc (ix2 d j) + (dkTerm G 1 a d ⟨j.val, by omega⟩ + dkTerm G 1 b d ⟨j.val, by omega⟩) := by
  unfold k0_pay70 dkTerm
  pointwise
  simp only [ds1_lo H, ds1_hi H, qw_at H, pos_1]

end Loads

end Cert.KernelIdeal.Val
-- ==== Proof.Block2.lean ====
/- The last of the three tiles of positions: all keys against positions 256 to 384, two query heads side by side. -/
module

public import proofs.«01_k».proof.Proof.Loads

@[expose] public section

set_option maxRecDepth 16384

noncomputable section

namespace Cert.KernelIdeal.Val

open Idealize.ShloMosaic Idealize.ShloMosaic.TcCoe Cert.KernelIdeal.Gen Cert.Model

namespace Loads

variable (L : Loads) (a b : Fin 8)

/-- The unscaled scores. -/
abbrev s2 : FVec Ideal S384x256 .f32 := k0_pay32 L.kR (L.qt 2 a) (L.qt 2 b)
/-- The unscaled products of values and output gradients. -/
abbrev g2 : FVec Ideal S384x256 .f32 := k0_pay33 L.vR (L.dw0 a) (L.dw0 b)
/-- The probabilities, before they are masked and rounded. -/
abbrev e2 : FVec Ideal S384x256 .f32 := k0_pay60 L.ks (L.qs a) (L.qs b) (L.lse2 a) (L.lse2 b) (L.s2 a b)
/-- The rows of the diagonal, before they are masked. -/
abbrev t2 : FVec Ideal S128x256 .f32 := k0_pay62 L.ks (L.qs a) (L.qs b) (L.lse2 a) (L.lse2 b) (L.s2 a b)
/-- The probabilities. -/
abbrev p2 : FVec Ideal S384x256 .bf16 := k0_pay64 (L.e2 a b) k0_pay61 (L.t2 a b)
/-- The gradient of the scaled scores. -/
abbrev ds2 : FVec Ideal S384x256 .bf16 :=
  k0_pay65 L.dpv (L.delta a) (L.delta b) (L.g2 a b) (L.e2 a b) k0_pay61 (L.t2 a b)

variable {L a b} {G : Grp} (H : L.Ok G)
include H

/-- Query tile 2: the probabilities of the first head of the pair, in the left columns. -/
theorem p2_lo (j : Fin 384) (c : Fin 128) :
    L.p2 a b (ix2 j ⟨c.val, by omega⟩) = G.p a j (pos 2 c) := by
  unfold p2 k0_pay64 k0_pay63 e2 t2 k0_pay62 k0_pay60 s2 k0_pay32 k0_pay61
  pointwise
  simp only [modulus, colWord_lo, kR_at H, lse2_at H, H.qt, H.qs, H.ks, pos_2]
  by_cases h : j.val < 256
  · rw [dif_pos h]
    exact G.p_of_le a (Fin.le_def.mpr (by dsimp only; omega))
  · rw [dif_neg h, mask_at _ _ (by omega) c.isLt]
    simp only [Nat.add_sub_cancel' (not_lt.mp h)]
    exact G.p_of a (by rw [Fin.le_def]; dsimp only; omega)

/-- … and of the second head, in the right columns. -/
theorem p2_hi (j : Fin 384) (c : Fin 128) :
    L.p2 a b (ix2 j ⟨128 + c.val, by omega⟩) = G.p b j (pos 2 c) := by
  unfold p2 k0_pay64 k0_pay63 e2 t2 k0_pay62 k0_pay60 s2 k0_pay32 k0_pay61
  pointwise
  simp only [modulus, colWord_hi, kR_at H, lse2_at H, H.qt, H.qs, H.ks, pos_2]
  by_cases h : j.val < 256
  · rw [dif_pos h]
    exact G.p_of_le b (Fin.le_def.mpr (by dsimp only; omega))
  · rw [dif_neg h, mask_at _ _ (by omega) c.isLt]
    simp only [Nat.add_sub_cancel' (not_lt.mp h)]
    exact G.p_of b (by rw [Fin.le_def]; dsimp only; omega)

/-- Query tile 2: the score gradients of the first head. -/
theorem ds2_lo (j : Fin 384) (c : Fin 128) :
    L.ds2 a b (ix2 j ⟨c.val, by omega⟩) = G.ds a j (pos 2 c) := by
  have hp := p2_lo (a := a) (b := b) H j c
  unfold p2 k0_pay64 at hp
  unfold ds2 k0_pay65 g2 k0_pay33
  pointwise
  pointwise at hp
  rw [hp]
  simp only [vR_at H, dw0_at H, dpv_at H, delta_at H, pos_2]
  rfl

/-- … and of the second head. -/
theorem ds2_hi (j : Fin 384) (c : Fin 128) :
    L.ds2 a b (ix2 j ⟨128 + c.val, by omega⟩) = G.ds b j (pos 2 c) := by
  have hp := p2_hi (a := a) (b := b) H j c
  unfold p2 k0_pay64 at hp
  unfold ds2 k0_pay65 g2 k0_pay33
  pointwise
  pointwise at hp
  rw [hp]
  simp only [vR_at H, dw0_at H, dpv_at H, delta_at H, pos_2]
  rfl

/-- Query tile 2: the query gradient of the first head; key positions past the tile add nothing. -/
theorem dq2_lo (d : Fin 64) (c : Fin 128) :
    k0_pay78 L.ks L.kT (L.ds2 a b) (ix4 0 0 d c) = G.dq a d (pos 2 c) := by
  unfold k0_pay78 k0_pay77
  pointwise
  simp only [ds2_lo H, kT_at H, H.ks]
  exact G.dq_of a d (pos 2 c) (by omega) (by rw [pos_2]; dsimp only; omega)

/-- … and of the second head. -/
theorem dq2_hi (d : Fin 64) (c : Fin 128) :
    k0_pay79 L.ks L.kT (L.ds2 a b) (ix4 0 0 d c) = G.dq b d (pos 2 c) := by
  unfold k0_pay79 k0_pay77
  pointwise
  simp only [ds2_hi H, kT_at H, H.ks]
  exact G.dq_of b d (pos 2 c) (by omega) (by rw [pos_2]; dsimp only; omega)

/-- Query tile 2: what it adds to the value gradient accumulator. -/
theorem dv2_at (acc : Vec Ideal S64x384 .f32) (d : Fin 64) (j : Fin 384) :
    k0_pay80 (L.dw a) (L.dw b) (L.p2 a b) acc (ix2 d j)
      = acc (ix2 d j) + (dvTerm G 2 a d j + dvTerm G 2 b d j) := by
  unfold k0_pay80 dvTerm
  pointwise
  simp only [p2_lo H, p2_hi H, dw_at H, pos_2]

/-- Query tile 2: what it adds to the key gradient accumulator. -/
theorem dk2_at (acc : Vec Ideal S64x384 .f32) (d : Fin 64) (j : Fin 384) :
    k0_pay81 (L.qw a) (L.qw b) (L.ds2 a b) acc (ix2 d j)
      = acc (ix2 d j) + (dkTerm G 2 a d j + dkTerm G 2 b d j) := by
  unfold k0_pay81 dkTerm
  pointwise
  simp only [ds2_lo H, ds2_hi H, qw_at H, pos_2]

end Loads

end Cert.KernelIdeal.Val
-- ==== Proof.Acc.lean ====
/- The two accumulators of one grid point: each is cleared, then every pair of query heads adds to its first 128, 256 and
   384 columns in turn. What such a list of stores leaves, read at an index. -/
module

public import proofs.«01_k».proof.Proof.Block0
public import proofs.«01_k».proof.Proof.Block1
public import proofs.«01_k».proof.Proof.Block2
public import Idealize.ShloMosaic.Lib.Pipeline.Value

@[expose] public section

set_option maxRecDepth 16384

noncomputable section

namespace Cert.KernelIdeal.Val

open Idealize.ShloMosaic Idealize.ShloMosaic.TcCoe Cert.KernelIdeal Cert.KernelIdeal.Gen Cert.Model

/-- The stores made to one accumulator, the latest first. -/
abbrev Stores := List (View.Piece (Elt Ideal) S64x384 EltTy.f32)

/-- The first `m` columns lie in the buffer. -/
theorem cols_inb {m : ℕ} (hm : m ≤ 384) : ∀ a, (![0, 0] : Fin 2 → Nat) a + (![64, m] : Fin 2 → Nat) a ≤ S64x384.size a := by
  intro a
  match a with
  | ⟨0, _⟩ => exact (by decide : 0 + 64 ≤ 64)
  | ⟨1, _⟩ => exact (by omega : 0 + m ≤ 384)

/-- The first `m` columns of an accumulator. -/
abbrev cols (m : ℕ) (hm : m ≤ 384) : Rect S64x384 := Rect.unit ![0, 0] ![64, m] (cols_inb hm)

/-- One more store: the first `m` columns are loaded, and `f` of them stored back. -/
def push (v : Memref sig .tc .vmem S64x384 .f32) (m : ℕ) (hm : m ≤ 384)
    (f : ((cols m hm).shape.Idx → Elt Ideal .f32) → (cols m hm).shape.Idx → Elt Ideal .f32) (L : Stores) : Stores :=
  ⟨cols m hm, f (v.view.readCov L (cols m hm).toLoadRect)⟩ :: L

/-- What a list of stores leaves is `f`. -/
def Leaves (L : Stores) (f : Fin 64 → Fin 384 → EReal) : Prop := ∀ d j, View.canon L (ix2 d j) = f d j

/-- A store that adds `u` to the first `m` columns, past which `u` is zero, adds `u`. -/
theorem push_leaves (v : Memref sig .tc .vmem S64x384 .f32) {m : ℕ} (hm : m ≤ 384)
    {f : ((cols m hm).shape.Idx → Elt Ideal .f32) → (cols m hm).shape.Idx → Elt Ideal .f32} {L : Stores}
    {g u : Fin 64 → Fin 384 → EReal} (hL : Leaves L g)
    (hf : ∀ (acc : (cols m hm).shape.Idx → Elt Ideal .f32) (d : Fin 64) (j : Fin m),
      f acc (ix2 d j) = acc (ix2 d j) + u d ⟨j.val, by omega⟩)
    (hu : ∀ d (j : Fin 384), m ≤ j.val → u d j = 0) : Leaves (push v m hm f L) (fun d j => g d j + u d j) := by
  intro d j
  have emb : ∀ (h : j.val < m), (cols m hm).emb (ix2 d ⟨j.val, h⟩) = ix2 d j := by
    intro h
    funext a
    match a with
    | ⟨0, _⟩ => exact Fin.ext (show 0 + 1 * d.val = d.val by omega)
    | ⟨1, _⟩ => exact Fin.ext (show 0 + 1 * j.val = j.val by omega)
  by_cases h : j.val < m
  · unfold push
    rw [← emb h, View.canon_cons_emb, hf, View.readCov_eq_canon']
    have : View.canon L ((cols m hm).toLoadRect.idx (ix2 d ⟨j.val, h⟩)) = g d j := by
      rw [← hL d j, ← emb h]; rfl
    dsimp only
    rw [this]
  · unfold push
    rw [View.canon_cons_of_not_mem _ _ ?_, hL]
    · exact (by rw [hu d j (not_lt.mp h), add_zero] : g d j = g d j + u d j)
    · intro hx
      obtain ⟨x, hx, e⟩ := ((cols m hm).mem_set).mp hx 1
      have hx' : x < m := hx
      have e' : j.val = 0 + 1 * x := e
      omega

/-- Past the last position of a tile its share of the value gradient is zero. -/
theorem dvTerm_of_lt (G : Grp) (t : Fin 3) (r : Fin 8) (d : Fin 64) {j : Fin 384} (h : 128 * t.val + 128 ≤ j.val) :
    dvTerm G t r d j = 0 :=
  Finset.sum_eq_zero fun c _ => by
    rw [G.p_of_lt r (Fin.lt_def.mpr (by unfold pos; dsimp only; omega)), mul_zero]

/-- Past the last position of a tile its share of the key gradient is zero. -/
theorem dkTerm_of_lt (G : Grp) (t : Fin 3) (r : Fin 8) (d : Fin 64) {j : Fin 384} (h : 128 * t.val + 128 ≤ j.val) :
    dkTerm G t r d j = 0 :=
  Finset.sum_eq_zero fun c _ => by
    rw [G.ds_of_lt r (Fin.lt_def.mpr (by unfold pos; dsimp only; omega)), mul_zero]

/-- A sum over all positions, tile by tile. -/
theorem sum_pos (f : Fin 384 → EReal) :
    ∑ i, f i = ∑ c, f (pos 0 c) + ∑ c, f (pos 1 c) + ∑ c, f (pos 2 c) := by
  rw [show (∑ i, f i) = ∑ i : Fin (128 + 128 + 128), f i from rfl, Fin.sum_univ_add, Fin.sum_univ_add]
  refine congrArg₂ _ (congrArg₂ _ ?_ ?_) ?_ <;>
    exact Finset.sum_congr rfl fun c _ => congrArg f (Fin.ext (by simp [pos, Nat.add_comm]))

/-- What a pair of query heads adds over the three tiles. -/
def pairSum (T : Fin 3 → Fin 8 → Fin 64 → Fin 384 → EReal) (a b : Fin 8) (d : Fin 64) (j : Fin 384) : EReal :=
  (T 0 a d j + T 0 b d j) + (T 1 a d j + T 1 b d j) + (T 2 a d j + T 2 b d j)

/-- What all eight query heads add over the three tiles is the sum over all positions and heads. -/
theorem sum_pairs (f : Fin 384 → Fin 8 → EReal) (T : Fin 3 → Fin 8 → Fin 64 → Fin 384 → EReal) (d : Fin 64) (j : Fin 384)
    (hT : ∀ t r, T t r d j = ∑ c, f (pos t c) r) :
    0 + pairSum T 0 1 d j + pairSum T 2 3 d j + pairSum T 4 5 d j + pairSum T 6 7 d j = ∑ i, ∑ r, f i r := by
  simp only [Fin.sum_univ_eight, Finset.sum_add_distrib, sum_pos (fun i => f i _), ← hT, pairSum, zero_add]
  ac_rfl

namespace Loads

variable (L : Loads) (v : Memref sig .tc .vmem S64x384 .f32) (a b : Fin 8)

/-- A pair of heads' three stores to the value accumulator. -/
def dvPush (S : Stores) : Stores :=
  push v 384 (by decide) (k0_pay80 (L.dw a) (L.dw b) (L.p2 a b))
    (push v 256 (by decide) (k0_pay69 (L.dw a) (L.dw b) (L.p1 a b))
      (push v 128 (by decide) (fun acc => k0_pay46 (k0_pay45 (L.dw a) (L.dw b) (L.p0 a b) acc)) S))

/-- A pair of heads' three stores to the key accumulator. -/
def dkPush (S : Stores) : Stores :=
  push v 384 (by decide) (k0_pay81 (L.qw a) (L.qw b) (L.ds2 a b))
    (push v 256 (by decide) (k0_pay70 (L.qw a) (L.qw b) (L.ds1 a b))
      (push v 128 (by decide) (k0_pay47 (L.qw a) (L.qw b) (L.ds0 a b)) S))

variable {L v a b} {G : Grp} (H : L.Ok G)
include H

/-- One pair of heads adds its terms, tile by tile, to the value gradient accumulator. -/
theorem dvPush_leaves {S : Stores} {g : Fin 64 → Fin 384 → EReal} (hS : Leaves S g) :
    Leaves (L.dvPush v a b S) (fun d j => g d j + pairSum (dvTerm G) a b d j) := by
  have h0 := push_leaves v (m := 128) (by decide) (f := (fun acc => k0_pay46 (k0_pay45 (L.dw a) (L.dw b) (L.p0 a b) acc)))
    (u := fun d j => dvTerm G 0 a d j + dvTerm G 0 b d j) hS (fun acc d j => dv0_at (a := a) (b := b) H acc d j)
    (fun d j h => by
      rw [dvTerm_of_lt G 0 a d (by simpa using h), dvTerm_of_lt G 0 b d (by simpa using h), add_zero])
  have h1 := push_leaves v (m := 256) (by decide) (f := k0_pay69 (L.dw a) (L.dw b) (L.p1 a b))
    (u := fun d j => dvTerm G 1 a d j + dvTerm G 1 b d j) h0 (fun acc d j => dv1_at (a := a) (b := b) H acc d j)
    (fun d j h => by
      rw [dvTerm_of_lt G 1 a d (by simpa using h), dvTerm_of_lt G 1 b d (by simpa using h), add_zero])
  have h2 := push_leaves v (m := 384) (by decide) (f := k0_pay80 (L.dw a) (L.dw b) (L.p2 a b))
    (u := fun d j => dvTerm G 2 a d j + dvTerm G 2 b d j) h1 (fun acc d j => dv2_at (a := a) (b := b) H acc d j)
    (fun d j h => by omega)
  intro d j
  rw [dvPush, h2 d j]
  simp only [pairSum, add_assoc]

/-- One pair of heads adds its terms, tile by tile, to the key gradient accumulator. -/
theorem dkPush_leaves {S : Stores} {g : Fin 64 → Fin 384 → EReal} (hS : Leaves S g) :
    Leaves (L.dkPush v a b S) (fun d j => g d j + pairSum (dkTerm G) a b d j) := by
  have h0 := push_leaves v (m := 128) (by decide) (f := (k0_pay47 (L.qw a) (L.qw b) (L.ds0 a b)))
    (u := fun d j => dkTerm G 0 a d j + dkTerm G 0 b d j) hS (fun acc d j => dk0_at (a := a) (b := b) H acc d j)
    (fun d j h => by
      rw [dkTerm_of_lt G 0 a d (by simpa using h), dkTerm_of_lt G 0 b d (by simpa using h), add_zero])
  have h1 := push_leaves v (m := 256) (by decide) (f := k0_pay70 (L.qw a) (L.qw b) (L.ds1 a b))
    (u := fun d j => dkTerm G 1 a d j + dkTerm G 1 b d j) h0 (fun acc d j => dk1_at (a := a) (b := b) H acc d j)
    (fun d j h => by
      rw [dkTerm_of_lt G 1 a d (by simpa using h), dkTerm_of_lt G 1 b d (by simpa using h), add_zero])
  have h2 := push_leaves v (m := 384) (by decide) (f := k0_pay81 (L.qw a) (L.qw b) (L.ds2 a b))
    (u := fun d j => dkTerm G 2 a d j + dkTerm G 2 b d j) h1 (fun acc d j => dk2_at (a := a) (b := b) H acc d j)
    (fun d j h => by omega)
  intro d j
  rw [dkPush, h2 d j]
  simp only [pairSum, add_assoc]

/-- All four pairs of heads, from a cleared accumulator: the value gradient. -/
theorem dv_leaves {S : Stores} (hS : Leaves S fun _ _ => 0) :
    Leaves (L.dvPush v 6 7 (L.dvPush v 4 5 (L.dvPush v 2 3 (L.dvPush v 0 1 S)))) G.dv := fun d j =>
  (dvPush_leaves H (dvPush_leaves H (dvPush_leaves H (dvPush_leaves H hS))) d j).trans
    (sum_pairs (fun i r => G.dO r d i * G.dos i * G.p r j i) (dvTerm G) d j fun _ _ => rfl)

/-- All four pairs of heads, from a cleared accumulator: the key gradient, before its scale. -/
theorem dk_leaves {S : Stores} (hS : Leaves S fun _ _ => 0) :
    Leaves (L.dkPush v 6 7 (L.dkPush v 4 5 (L.dkPush v 2 3 (L.dkPush v 0 1 S))))
      (fun d j => ∑ i, ∑ r, G.q r d i * G.qs r * G.ds r j i) := fun d j =>
  (dkPush_leaves H (dkPush_leaves H (dkPush_leaves H (dkPush_leaves H hS))) d j).trans
    (sum_pairs (fun i r => G.q r d i * G.qs r * G.ds r j i) (dkTerm G) d j fun _ _ => rfl)

end Loads

end Cert.KernelIdeal.Val
-- ==== Proof.Run.lean ====
/- What one grid point's body leaves in its three results, read at an index: the query, key and value gradients of its
   key/value head. -/
module

public import proofs.«01_k».proof.Proof.Env
public import proofs.«01_k».proof.Proof.Acc
public import proofs.«01_k».proof.Proof.Gen.KernelIdeal.Frame
public import Idealize.ShloMosaic.Lib.Pipeline.ReadBack

@[expose] public section

set_option maxRecDepth 16384

noncomputable section

namespace Cert.KernelIdeal.Val

open Idealize.ShloMosaic Idealize.ShloMosaic.TcCoe Cert.KernelIdeal Cert.KernelIdeal.Gen Cert.Model

variable (E : Env)

/-- The body's stores to the value accumulator are the four pairs' stores after its clearing. -/
theorem Env.dvStores : kernelRun0_A.sl.HS1_13 E.c E.i E.arg2 E.harg2 E.arg3 E.harg3 E.arg5 E.harg5 E.arg6 E.harg6 E.arg9 E.harg9 E.arg10 E.harg10 E.arg11 E.harg11 E.arg16 E.x0 E.x1 E.x3 E.x4 E.x7 E.x8 E.x9 =
    E.loads.dvPush E.arg16 6 7 (E.loads.dvPush E.arg16 4 5 (E.loads.dvPush E.arg16 2 3 (E.loads.dvPush E.arg16 0 1
      kernelRun0_A.sl.HS1_1))) := by
  sl_kernel_rfl

/-- The body's stores to the key accumulator are the four pairs' stores after its clearing. -/
theorem Env.dkStores : kernelRun0_A.sl.HS0_13 E.c E.i E.arg2 E.harg2 E.arg3 E.harg3 E.arg4 E.harg4 E.arg5 E.harg5 E.arg6 E.harg6 E.arg7 E.harg7 E.arg8 E.harg8 E.arg9 E.harg9 E.arg10 E.harg10 E.arg11 E.harg11 E.arg15 E.x0 E.x1 E.x2 E.x3 E.x4 E.x5 E.x6 E.x7 E.x8 E.x9 =
    E.loads.dkPush E.arg15 6 7 (E.loads.dkPush E.arg15 4 5 (E.loads.dkPush E.arg15 2 3 (E.loads.dkPush E.arg15 0 1
      kernelRun0_A.sl.HS1_1))) := by
  sl_kernel_rfl

/-- A cleared accumulator is zero. -/
theorem cleared : Leaves (kernelRun0_A.sl.HS1_1 (F := Ideal)) fun _ _ => 0 := by
  intro d j
  unfold kernelRun0_A.sl.HS1_1 kernelRun0_A.sl.v24 kernelRun0_A.sl.v21
  rw [View.canon_unit_zero (by funext a; match a with | ⟨0, _⟩ => rfl | ⟨1, _⟩ => rfl)]
  pointwise
  exact Ideal.ofBits_zero .f32

/-- The rectangle of tile `t` of head `r` in the query gradient's block. -/
abbrev tile (t : Fin 3) (r : Fin 8) : Rect S1x8x64x384 :=
  Rect.unit ![0, r.val, 0, 128 * t.val] S1x1x64x128.size (tile_inb t r)

/-- A pair of heads' six stores to the query gradient, the latest first. -/
def Loads.dqTiles (L : Loads) (a b : Fin 8) : List (View.Piece (Elt Ideal) S1x8x64x384 EltTy.bf16) :=
  [⟨tile 2 b, k0_pay79 L.ks L.kT (L.ds2 a b)⟩, ⟨tile 2 a, k0_pay78 L.ks L.kT (L.ds2 a b)⟩,
    ⟨tile 1 b, k0_pay68 L.ks L.kT (L.ds1 a b)⟩, ⟨tile 1 a, k0_pay67 L.ks L.kT (L.ds1 a b)⟩,
    ⟨tile 0 b, k0_pay44 L.ks L.kT (L.ds0 a b)⟩, ⟨tile 0 a, k0_pay43 L.ks L.kT (L.ds0 a b)⟩]

/-- The body's stores to the query gradient are the four pairs' stores. -/
theorem Env.dqStores : (kernelRun0_A E.c E.i E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 E.arg13 E.harg13 E.arg14 E.harg14 E.arg15 E.harg15 E.arg16 E.harg16 E.x0 E.x1 E.x2 E.x3 E.x4 E.x5 E.x6 E.x7 E.x8 E.x9).1 =
    E.loads.dqTiles 6 7 ++ (E.loads.dqTiles 4 5 ++ (E.loads.dqTiles 2 3 ++ (E.loads.dqTiles 0 1 ++ []))) := by
  sl_kernel_rfl

/-- The query gradients of the eight heads, as one block. -/
def dqBlock (G : Grp) : S1x8x64x384.Idx → EReal := fun y => G.dq (y 1) (y 2) (y 3)

/-- A store that holds a tile of a head's query gradient is a block of them. -/
theorem tile_block (G : Grp) (t : Fin 3) (r : Fin 8) (w : S1x1x64x128.Idx → EReal)
    (h : ∀ d c, w (ix4 0 0 d c) = G.dq r d (pos t c)) : ∀ x, w x = dqBlock G ((tile t r).emb x) := by
  intro x
  obtain ⟨d, c, rfl⟩ : ∃ d c, x = ix4 0 0 d c :=
    ⟨x 2, x 3, (eq_ix4 x).trans (by rw [show x 0 = (0 : Fin 1) from Fin.fin_one_eq_zero _, show x 1 = (0 : Fin 1) from Fin.fin_one_eq_zero _])⟩
  rw [h]
  have e : (tile t r).emb (ix4 0 0 d c) = ix4 0 r d (pos t c) := by
    funext a
    match a with
    | ⟨0, _⟩ => rfl
    | ⟨1, _⟩ => exact Fin.ext (show r.val + 1 * 0 = r.val by omega)
    | ⟨2, _⟩ => exact Fin.ext (show 0 + 1 * d.val = d.val by omega)
    | ⟨3, _⟩ => exact Fin.ext (show 128 * t.val + 1 * c.val = 128 * t.val + c.val by omega)
  rw [e]
  rfl

/-- A pair's six stores are blocks of the query gradients. -/
theorem dqTiles_block {L : Loads} {G : Grp} (H : L.Ok G) (a b : Fin 8) :
    ∀ p ∈ L.dqTiles a b, ∀ x : p.1.shape.Idx, p.2 x = dqBlock G (p.1.emb x) := by
  have h : View.PiecesOf (dqBlock G) (L.dqTiles a b) :=
    ⟨tile_block G 2 b _ (Loads.dq2_hi H), tile_block G 2 a _ (Loads.dq2_lo H), tile_block G 1 b _ (Loads.dq1_hi H),
      tile_block G 1 a _ (Loads.dq1_lo H), tile_block G 0 b _ (Loads.dq0_hi H), tile_block G 0 a _ (Loads.dq0_lo H), trivial⟩
  exact h.mem

/-- What the body leaves in the query gradient. -/
def Env.out10 : Vec Ideal S1x8x64x384 .bf16 := out0_A_10 E.c E.i E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 E.arg13 E.harg13 E.arg14 E.harg14 E.arg15 E.harg15 E.arg16 E.harg16 E.x0 E.x1 E.x2 E.x3 E.x4 E.x5 E.x6 E.x7 E.x8 E.x9
/-- What the body leaves in the key gradient. -/
def Env.out11 : Vec Ideal S1x1x64x384 .bf16 := out0_A_11 E.c E.i E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 E.arg13 E.harg13 E.arg14 E.harg14 E.arg15 E.harg15 E.arg16 E.harg16 E.x0 E.x1 E.x2 E.x3 E.x4 E.x5 E.x6 E.x7 E.x8 E.x9
/-- What the body leaves in the value gradient. -/
def Env.out12 : Vec Ideal S1x1x64x384 .bf16 := out0_A_12 E.c E.i E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 E.arg13 E.harg13 E.arg14 E.harg14 E.arg15 E.harg15 E.arg16 E.harg16 E.x0 E.x1 E.x2 E.x3 E.x4 E.x5 E.x6 E.x7 E.x8 E.x9

/-- A load of a whole accumulator reads it at the same index. -/
theorem whole_idx (d : Fin 64) (j : Fin 384) :
    (Rect.unit (s := S64x384) ![0, 0] ![64, 384] inb_S64x384_S64x384_0_0).toLoadRect.idx (ix2 d j) = ix2 d j := by
  funext a
  match a with
  | ⟨0, _⟩ => exact Fin.ext (show 0 + 1 * d.val = d.val by omega)
  | ⟨1, _⟩ => exact Fin.ext (show 0 + 1 * j.val = j.val by omega)

variable {E} {G : Grp} (H : E.loads.Ok G)
include H

/-- The query gradient block after the body. -/
theorem out10_at (r : Fin 8) (d : Fin 64) (i : Fin 384) : E.out10 (ix4 0 r d i) = G.dq r d i := by
  have hc := cover0_A_10 E.c E.i E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 E.arg13 E.harg13 E.arg14 E.harg14 E.arg15 E.harg15 E.arg16 E.harg16 E.x0 E.x1 E.x2 E.x3 E.x4 E.x5 E.x6 E.x7 E.x8 E.x9 (ix4 0 r d i)
  unfold Env.out10 out0_A_10
  rw [View.read_writes_junk_apply_eq_canon]
  rw [E.dqStores] at hc ⊢
  have hb : ∀ p ∈ E.loads.dqTiles 6 7 ++ (E.loads.dqTiles 4 5 ++ (E.loads.dqTiles 2 3 ++ (E.loads.dqTiles 0 1 ++ []))),
      ∀ x : p.1.shape.Idx, p.2 x = dqBlock G (p.1.emb x) := by
    intro p hp
    simp only [List.mem_append, List.not_mem_nil, or_false] at hp
    rcases hp with hp | hp | hp | hp
    · exact dqTiles_block H 6 7 p hp
    · exact dqTiles_block H 4 5 p hp
    · exact dqTiles_block H 2 3 p hp
    · exact dqTiles_block H 0 1 p hp
  have := View.canon_append_of_pieces (dqBlock G) [] _ hb _ hc
  rw [List.append_nil] at this
  exact this

/-- The value gradient block after the body. -/
theorem out12_at (d : Fin 64) (j : Fin 384) : E.out12 (ix4 0 0 d j) = G.dv d j := by
  unfold Env.out12 out0_A_12
  rw [View.read_writes_junk_apply_eq_canon]
  unfold kernelRun0_A
  dsimp only
  rw [View.canon_unit_zero (by funext a; match a with | ⟨0, _⟩ => rfl | ⟨1, _⟩ => rfl | ⟨2, _⟩ => rfl | ⟨3, _⟩ => rfl)]
  unfold k0_pay3
  pointwise
  unfold kernelRun0_A.sl.v1388
  rw [View.readCov_eq_canon', E.dvStores]
  refine Eq.trans ?_ (Loads.dv_leaves H (v := E.arg16) cleared d j)
  exact congrArg _ (whole_idx d j)

/-- The key gradient block after the body. -/
theorem out11_at (d : Fin 64) (j : Fin 384) : E.out11 (ix4 0 0 d j) = G.dk d j := by
  unfold Env.out11 out0_A_11
  rw [View.read_writes_junk_apply_eq_canon]
  unfold kernelRun0_A
  dsimp only
  rw [View.canon_unit_zero (by funext a; match a with | ⟨0, _⟩ => rfl | ⟨1, _⟩ => rfl | ⟨2, _⟩ => rfl | ⟨3, _⟩ => rfl)]
  unfold k0_pay2
  pointwise
  unfold kernelRun0_A.sl.v1381
  rw [View.readCov_eq_canon', E.dkStores]
  exact congrArg (· * sm) ((congrArg _ (whole_idx d j)).trans (Loads.dk_leaves H (v := E.arg15) cleared d j))

end Cert.KernelIdeal.Val
-- ==== Proof.Arrays.lean ====
/- The kernel's three result arrays after its grid has run, as functions of the ten arguments. -/
module

public import proofs.«01_k».proof.Proof.Groups
public import proofs.«01_k».proof.Proof.Entry
public import proofs.«01_k».proof.Proof.Run
public import Idealize.ShloMosaic.Lib.Pipeline.Value
public import Idealize.ShloMosaic.Lib.Pipeline.ValueKit
public import Idealize.ShloMosaic.Lib.StableHlo.RunRead
public import Idealize.ShloMosaic.Lib.StableHlo.ReadAt

@[expose] public section

set_option maxRecDepth 16384

noncomputable section

namespace Cert.KernelIdeal.Val

open Idealize.ShloMosaic Idealize.ShloMosaic.TcCoe Cert.KernelIdeal Cert.KernelIdeal.Gen Cert.Model

variable (m : (ℓ : Loc nD τ sig) → Buf (Elt Ideal) ℓ)

/-- What a grid point leaves is what the body leaves on its inputs. -/
theorem outsAt0_eq (c : Dev nD) (t : Fin cfg0.N) :
    outsAt0 m c t = ((env m c t).out10, (env m c t).out11, (env m c t).out12) := by sl_kernel_rfl

/-- What grid point `t` leaves in its query gradient block. -/
theorem blk10_at (c : Dev nD) (t : Fin cfg0.N) (h0 : ∀ i, 0 ≤ (args m c).dos i) (h1 : ∀ i, (args m c).dos i ≠ ⊤)
    (r : Fin 8) (d : Fin 64) (i : Fin 384) :
    (outsAt0 m c t).1 (ix4 0 r d i) = ((args m c).grp (batch t) (kv t)).dq r d i := by
  have e : (outsAt0 m c t).1 = (env m c t).out10 := by rw [outsAt0_eq]
  rw [e]
  exact out10_at (holds m c t h0 h1).ok r d i

/-- What grid point `t` leaves in its key gradient block. -/
theorem blk11_at (c : Dev nD) (t : Fin cfg0.N) (h0 : ∀ i, 0 ≤ (args m c).dos i) (h1 : ∀ i, (args m c).dos i ≠ ⊤)
    (d : Fin 64) (j : Fin 384) :
    (outsAt0 m c t).2.1 (ix4 0 0 d j) = ((args m c).grp (batch t) (kv t)).dk d j := by
  have e : (outsAt0 m c t).2.1 = (env m c t).out11 := by rw [outsAt0_eq]
  rw [e]
  exact out11_at (holds m c t h0 h1).ok d j

/-- What grid point `t` leaves in its value gradient block. -/
theorem blk12_at (c : Dev nD) (t : Fin cfg0.N) (h0 : ∀ i, 0 ≤ (args m c).dos i) (h1 : ∀ i, (args m c).dos i ≠ ⊤)
    (d : Fin 64) (j : Fin 384) :
    (outsAt0 m c t).2.2 (ix4 0 0 d j) = ((args m c).grp (batch t) (kv t)).dv d j := by
  have e : (outsAt0 m c t).2.2 = (env m c t).out12 := by rw [outsAt0_eq]
  rw [e]
  exact out12_at (holds m c t h0 h1).ok d j

/-- The query gradient after the grid, dimensions before positions. -/
theorem arr10 (c : Dev nD) (h0 : ∀ i, 0 ≤ (args m c).dos i) (h1 : ∀ i, (args m c).dos i ≠ ⊤) :
    (dats m 0 c).arrAt 10 cfg0.N = fun y => (args m c).dq (ix4 (y 0) (y 3) (y 1) (y 2)) := by
  refine (dats m 0 c).arrAt_eq_of_covers 10 _ (by decide +kernel) fun t hf y => ?_
  blk_simp
  rw [after0_10]
  have e := blk10_at m c t h0 h1 (y 1) (y 2) (y 3)
  have hy : (ix4 0 (y 1) (y 2) (y 3) : S1x8x64x384.Idx) = y := by blk_ext
  rw [hy] at e
  refine e.trans ?_
  have h2 : (ix4 ((win0_10.blk t).view.emb y 0) ((win0_10.blk t).view.emb y 3) ((win0_10.blk t).view.emb y 1)
        ((win0_10.blk t).view.emb y 2) : (⟨4, ![3, 384, 32, 64]⟩ : Shape).Idx) = ix4 (batch t) (y 3) (head (kv t) (y 1)) (y 2) := by
    blk_ext [idx10, batch, kv, head]
  rw [h2]
  exact ((args m c).dq_head (batch t) (kv t) (y 1) (y 2) (y 3)).symm

/-- The key gradient after the grid, dimensions before positions. -/
theorem arr11 (c : Dev nD) (h0 : ∀ i, 0 ≤ (args m c).dos i) (h1 : ∀ i, (args m c).dos i ≠ ⊤) :
    (dats m 0 c).arrAt 11 cfg0.N = fun y => (args m c).dk (ix4 (y 0) (y 3) (y 1) (y 2)) := by
  refine (dats m 0 c).arrAt_eq_of_covers 11 _ (by decide +kernel) fun t hf y => ?_
  blk_simp
  rw [after0_11]
  have e := blk11_at m c t h0 h1 (y 2) (y 3)
  have hy : (ix4 0 0 (y 2) (y 3) : S1x1x64x384.Idx) = y := by blk_ext
  rw [hy] at e
  refine e.trans ?_
  have h2 : (ix4 ((win0_11.blk t).view.emb y 0) ((win0_11.blk t).view.emb y 3) ((win0_11.blk t).view.emb y 1)
        ((win0_11.blk t).view.emb y 2) : (⟨4, ![3, 384, 4, 64]⟩ : Shape).Idx) = ix4 (batch t) (y 3) (kv t) (y 2) := by
    blk_ext [idx11, batch, kv]
  rw [h2]
  rfl

/-- The value gradient after the grid, dimensions before positions. -/
theorem arr12 (c : Dev nD) (h0 : ∀ i, 0 ≤ (args m c).dos i) (h1 : ∀ i, (args m c).dos i ≠ ⊤) :
    (dats m 0 c).arrAt 12 cfg0.N = fun y => (args m c).dv (ix4 (y 0) (y 3) (y 1) (y 2)) := by
  refine (dats m 0 c).arrAt_eq_of_covers 12 _ (by decide +kernel) fun t hf y => ?_
  blk_simp
  rw [after0_12]
  have e := blk12_at m c t h0 h1 (y 2) (y 3)
  have hy : (ix4 0 0 (y 2) (y 3) : S1x1x64x384.Idx) = y := by blk_ext
  rw [hy] at e
  refine e.trans ?_
  have h2 : (ix4 ((win0_12.blk t).view.emb y 0) ((win0_12.blk t).view.emb y 3) ((win0_12.blk t).view.emb y 1)
        ((win0_12.blk t).view.emb y 2) : (⟨4, ![3, 384, 4, 64]⟩ : Shape).Idx) = ix4 (batch t) (y 3) (kv t) (y 2) := by
    blk_ext [idx12, batch, kv]
  rw [h2]
  rfl

/-- The query gradient as returned: the transpose after the grid puts positions before heads and dimensions. -/
theorem out_v6 (V : Valuation τ sig (Elt Ideal)) (G : (⟨4, ![3, 384, 32, 64]⟩ : Shape).Idx → EReal)
    (h : V (Proc.devRef .tc main_v5_0) = fun y => G (ix4 (y 0) (y 3) (y 1) (y 2))) :
    StableHlo.after hostOps1 V (Proc.devRef .tc main_v6) = G := by
  funext y
  obtain ⟨b, i, hh, d, rfl⟩ : ∃ b i hh d, y = ix4 b i hh d := ⟨y 0, y 1, y 2, y 3, by blk_ext⟩
  after_reads_at
  rw [h]
  rfl

/-- The key gradient as returned: the transpose after the grid puts positions before heads and dimensions. -/
theorem out_v7 (V : Valuation τ sig (Elt Ideal)) (G : (⟨4, ![3, 384, 4, 64]⟩ : Shape).Idx → EReal)
    (h : V (Proc.devRef .tc main_v5_1) = fun y => G (ix4 (y 0) (y 3) (y 1) (y 2))) :
    StableHlo.after hostOps1 V (Proc.devRef .tc main_v7) = G := by
  funext y
  obtain ⟨b, i, hh, d, rfl⟩ : ∃ b i hh d, y = ix4 b i hh d := ⟨y 0, y 1, y 2, y 3, by blk_ext⟩
  after_reads_at
  rw [h]
  rfl

/-- The value gradient as returned: the transpose after the grid puts positions before heads and dimensions. -/
theorem out_v8 (V : Valuation τ sig (Elt Ideal)) (G : (⟨4, ![3, 384, 4, 64]⟩ : Shape).Idx → EReal)
    (h : V (Proc.devRef .tc main_v5_2) = fun y => G (ix4 (y 0) (y 3) (y 1) (y 2))) :
    StableHlo.after hostOps1 V (Proc.devRef .tc main_v8) = G := by
  funext y
  obtain ⟨b, i, hh, d, rfl⟩ : ∃ b i hh d, y = ix4 b i hh d := ⟨y 0, y 1, y 2, y 3, by blk_ext⟩
  after_reads_at
  rw [h]
  rfl

end Cert.KernelIdeal.Val
-- ==== Proof.KernelRun.lean ====
/- The kernel's run: what its three result arrays hold when it ends. -/
module

public import proofs.«01_k».proof.Proof.Arrays

@[expose] public section

set_option maxRecDepth 16384

noncomputable section

namespace Cert.KernelIdeal.Val

open Idealize.ShloMosaic Idealize.ShloMosaic.TcCoe Idealize.SL.Sem Cert.KernelIdeal Cert.KernelIdeal.Gen Cert.Model

variable (m : (ℓ : Loc nD τ sig) → Buf (Elt Ideal) ℓ) (ρ : Dev nD → PrngReg)

/-- What a buffer ends with: the transposes after the grid, run on what the grid leaves. -/
theorem afterTail_eq (c : Dev nD) (b : Ref sig .tc) :
    Pipeline.afterTail₀ cfgs (dats m) 0 (V0 m) [hostOps1] c b
      = StableHlo.after hostOps1 (Pipeline.withArrays spec0 c (V0 m c) fun w => (dats m 0 c).arrAt w cfg0.N)
          (Proc.devRef .tc b) := by
  unfold Pipeline.afterTail₀
  rw [List.flatten_cons, List.flatten_nil, List.append_nil]

/-- The windows' arrays are different buffers. -/
theorem arr_inj : Function.Injective (Pipeline.arrRef spec0) := by decide

/-- What the grid leaves in the array of window `w`. -/
theorem exit_at (c : Dev nD) (w : Fin 13) :
    Pipeline.withArrays spec0 c (V0 m c) (fun w => (dats m 0 c).arrAt w cfg0.N) (Proc.devRef .tc (Pipeline.arrRef spec0 w))
      = (dats m 0 c).arrAt w cfg0.N :=
  Pipeline.withArrays_arr spec0 arr_inj c (V0 m c) (fun w => (dats m 0 c).arrAt w cfg0.N) w

/-- The kernel's run, for scales of the output gradient that are finite and not negative: its three results are the
    model's, at its arguments. -/
theorem run (h0 : ∀ c i, 0 ≤ (args m c).dos i) (h1 : ∀ c i, (args m c).dos i ≠ ⊤) :
    θ_run defs (onTc (τ := τ) (main (F := Ideal))) ⟨m, fun _ => 0, ρ⟩ (fun r => ∀ c : Dev nD,
      r.2.mem ((c : Thread nD τ).loc main_v6) = (args m c).dq
      ∧ r.2.mem ((c : Thread nD τ).loc main_v7) = (args m c).dk
      ∧ r.2.mem ((c : Thread nD τ).loc main_v8) = (args m c).dv) :=
  (θ_run defs _ _).mono (fun r h c => by
    refine ⟨?_, ?_, ?_⟩
    · exact ((h c).2 main_v6 (Pipeline.mem_restRefs_of main_v6 (by decide) (by decide))).trans
        ((afterTail_eq m c _).trans (out_v6 _ _ ((exit_at m c 10).trans (arr10 m c (h0 c) (h1 c)))))
    · exact ((h c).2 main_v7 (Pipeline.mem_restRefs_of main_v7 (by decide) (by decide))).trans
        ((afterTail_eq m c _).trans (out_v7 _ _ ((exit_at m c 11).trans (arr11 m c (h0 c) (h1 c)))))
    · exact ((h c).2 main_v8 (Pipeline.mem_restRefs_of main_v8 (by decide) (by decide))).trans
        ((afterTail_eq m c _).trans (out_v8 _ _ ((exit_at m c 12).trans (arr12 m c (h0 c) (h1 c)))))) (run_main m ρ)

end Cert.KernelIdeal.Val
-- ==== Proof.RefValue.lean ====
/- What the reference's three results hold, as functions of the ten arguments. -/
module

public import proofs.«01_k».proof.Proof.Groups
public import proofs.«01_k».proof.Proof.Gen.ReferenceIdeal.Frame
public import Idealize.ShloMosaic.Lib.Pointwise
public import Idealize.ShloMosaic.Lib.WordCmp
public import Idealize.ShloMosaic.Lib.StableHlo.RunRead
public import Idealize.ShloMosaic.Lib.StableHlo.ReadAt
public import Idealize.ShloMosaic.Lib.Tactic

@[expose] public section

set_option maxRecDepth 16384

noncomputable section

namespace Cert.ReferenceIdeal.Val

open Idealize.ShloMosaic Idealize.ShloMosaic.TcCoe Cert.ReferenceIdeal Cert.ReferenceIdeal.Gen Cert.Model

/-- The arguments as the host operations find them: the four low-precision ones after their cast. -/
def vargs (V : Valuation τ sig (Elt Ideal)) : Args where
  q := V (Proc.devRef .tc main_v0_0)
  qs := V (Proc.devRef .tc main_arg1)
  k := V (Proc.devRef .tc main_v0_1)
  ks := V (Proc.devRef .tc main_arg3)
  v := V (Proc.devRef .tc main_v0_2)
  vs := V (Proc.devRef .tc main_arg5)
  o := V (Proc.devRef .tc main_arg6)
  lse := V (Proc.devRef .tc main_arg7)
  dO := V (Proc.devRef .tc main_v0_3)
  dos := V (Proc.devRef .tc main_arg9)

/-- The word that stands for minus infinity. -/
theorem ofBits_neg_inf : Ideal.ofBits .f32 0xFF800000#32 = ⊥ := by
  simp [Ideal.ofBits, Ideal.ieee]

/-- The causal mask and the exponential, as the reference writes them, are the model's probability. -/
theorem p_eq (G : Grp) (r : Fin 8) (i j : Fin 384) :
    Ideal.exp (Scalar.select (IntOp.cmpi .sge (BitVec.ofNat 32 i.val) (BitVec.ofNat 32 j.val))
        ((∑ d, G.k d j * G.q r d i) * (G.qs r * G.ks * Ideal.ofBits .f32 0x3E000000#32))
        (id (constant (F := Ideal) S_ .f32 0xFF800000#32) ix0) - G.lse r i) = G.p r j i := by
  rw [WordCmp.cmpi_sge_ofNat (by omega) (by omega)]
  unfold Grp.p
  by_cases h : j ≤ i
  · have h' : j.val ≤ i.val := h
    simp [h, h', Scalar.select, Grp.score, sm]
  · have h' : ¬ j.val ≤ i.val := h
    have e : constant (F := Ideal) S_ .f32 0xFF800000#32 ix0 = ⊥ := ofBits_neg_inf
    simp [h, h', Scalar.select, e, sub_eq_add_neg]

variable (V : Valuation τ sig (Elt Ideal))

/-- The reference's value gradient. -/
theorem v76_at (b : Fin 3) (j : Fin 384) (g : Fin 4) (d : Fin 64) :
    StableHlo.after (hostOps1 ++ (hostOps1_1 ++ hostOps1_2)) V (Proc.devRef .tc main_v76) (ix4 b j g d)
      = ((vargs V).grp b g).dv d j := by
  after_reads_at
  exact Finset.sum_congr rfl fun i _ => Finset.sum_congr rfl fun r _ =>
    congrArg (fun x => ((vargs V).grp b g).dO r d i * ((vargs V).grp b g).dos i * x) (p_eq ((vargs V).grp b g) r i j)

/-- The reference's key gradient. -/
theorem v75_at (b : Fin 3) (j : Fin 384) (g : Fin 4) (d : Fin 64) :
    StableHlo.after (hostOps1 ++ (hostOps1_1 ++ hostOps1_2)) V (Proc.devRef .tc main_v75) (ix4 b j g d)
      = ((vargs V).grp b g).dk d j := by
  after_reads_at
  exact congrArg (fun x : EReal => x * sm) (Finset.sum_congr rfl fun i _ => Finset.sum_congr rfl fun r _ =>
    congrArg (fun x => ((vargs V).grp b g).q r d i * ((vargs V).grp b g).qs r *
      (x * (((vargs V).grp b g).dp r j i - ((vargs V).grp b g).delta r i))) (p_eq ((vargs V).grp b g) r i j))

/-- The reference's query gradient. -/
theorem v56_at (b : Fin 3) (i : Fin 384) (h : Fin 32) (d : Fin 64) :
    StableHlo.after (hostOps1 ++ (hostOps1_1 ++ hostOps1_2)) V (Proc.devRef .tc main_v56) (ix4 b i h d)
      = ((vargs V).grp b (group h)).dq (member h) d i := by
  after_reads_at
  exact congrArg (fun x : EReal => x * (((vargs V).grp b (group h)).ks * sm)) (Finset.sum_congr rfl fun j _ =>
    congrArg (fun x => ((vargs V).grp b (group h)).k d j *
      (x * (((vargs V).grp b (group h)).dp (member h) j i - ((vargs V).grp b (group h)).delta (member h) i)))
      (p_eq ((vargs V).grp b (group h)) (member h) i j))

end Cert.ReferenceIdeal.Val
-- ==== Proof.RefRun.lean ====
/- The reference's run: what its three result arrays hold when it ends. -/
module

public import proofs.«01_k».proof.Proof.RefValue
public import Idealize.ShloMosaic.Lib.Pipeline.Value
public import Idealize.ShloMosaic.Lib.Pipeline.ValueKit

@[expose] public section

set_option maxRecDepth 16384

noncomputable section

namespace Cert.ReferenceIdeal.Val

open Idealize.ShloMosaic Idealize.ShloMosaic.TcCoe Idealize.SL.Sem Cert.ReferenceIdeal Cert.ReferenceIdeal.Gen Cert.Model

variable (m : (ℓ : Loc nD τ sig) → Buf (Elt Ideal) ℓ) (ρ : Dev nD → PrngReg)

/-- The ten arguments, as core `c` holds them. -/
def args (c : Dev nD) : Args where
  q := m ((c : Thread nD τ).loc main_arg0)
  qs := m ((c : Thread nD τ).loc main_arg1)
  k := m ((c : Thread nD τ).loc main_arg2)
  ks := m ((c : Thread nD τ).loc main_arg3)
  v := m ((c : Thread nD τ).loc main_arg4)
  vs := m ((c : Thread nD τ).loc main_arg5)
  o := m ((c : Thread nD τ).loc main_arg6)
  lse := m ((c : Thread nD τ).loc main_arg7)
  dO := m ((c : Thread nD τ).loc main_arg8)
  dos := m ((c : Thread nD τ).loc main_arg9)

/-- The zero offsets. -/
theorem off_zero : (![0, 0, 0, 0] : Fin 4 → Nat) = fun _ => 0 := by decide

/-- Every window is its whole array. -/
theorem idx : ∀ t, win0_0.index t = ![0, 0, 0, 0] ∧ win0_1.index t = ![0, 0, 0, 0] ∧ win0_2.index t = ![0, 0, 0, 0] ∧ win0_3.index t = ![0, 0, 0, 0] ∧ win0_4.index t = ![0, 0, 0, 0] ∧ win0_5.index t = ![0, 0, 0, 0] ∧ win0_6.index t = ![0, 0, 0, 0] ∧ win0_7.index t = ![0, 0, 0, 0] := by decide +kernel

/-- The cast queries: over the extended reals the cast changes nothing. -/
theorem arr4 (c : Dev nD) : (dats m 0 c).arrAt 4 cfg0.N = fun y => m ((c : Thread nD τ).loc main_arg0) y := by
  refine (dats m 0 c).arrAt_eq_of_covers 4 _ (by decide +kernel) fun t hf y => ?_
  blk_simp
  rw [after0_4]
  unfold out0_4
  rw [View.canon_unit_zero off_zero, View.ld_unit_zero off_zero]
  show iblk m c 0 t y = _
  rw [← V_main_arg0 m c]
  blk_ext [iblk, idx t]

/-- The cast keys: over the extended reals the cast changes nothing. -/
theorem arr5 (c : Dev nD) : (dats m 0 c).arrAt 5 cfg0.N = fun y => m ((c : Thread nD τ).loc main_arg2) y := by
  refine (dats m 0 c).arrAt_eq_of_covers 5 _ (by decide +kernel) fun t hf y => ?_
  blk_simp
  rw [after0_5]
  unfold out0_5
  rw [View.canon_unit_zero off_zero, View.ld_unit_zero off_zero]
  show iblk m c 1 t y = _
  rw [← V_main_arg2 m c]
  blk_ext [iblk, idx t]

/-- The cast values: over the extended reals the cast changes nothing. -/
theorem arr6 (c : Dev nD) : (dats m 0 c).arrAt 6 cfg0.N = fun y => m ((c : Thread nD τ).loc main_arg4) y := by
  refine (dats m 0 c).arrAt_eq_of_covers 6 _ (by decide +kernel) fun t hf y => ?_
  blk_simp
  rw [after0_6]
  unfold out0_6
  rw [View.canon_unit_zero off_zero, View.ld_unit_zero off_zero]
  show iblk m c 2 t y = _
  rw [← V_main_arg4 m c]
  blk_ext [iblk, idx t]

/-- The cast output gradient: over the extended reals the cast changes nothing. -/
theorem arr7 (c : Dev nD) : (dats m 0 c).arrAt 7 cfg0.N = fun y => m ((c : Thread nD τ).loc main_arg8) y := by
  refine (dats m 0 c).arrAt_eq_of_covers 7 _ (by decide +kernel) fun t hf y => ?_
  blk_simp
  rw [after0_7]
  unfold out0_7
  rw [View.canon_unit_zero off_zero, View.ld_unit_zero off_zero]
  show iblk m c 3 t y = _
  rw [← V_main_arg8 m c]
  blk_ext [iblk, idx t]

/-- The contents the host operations after the casts start from. -/
def mid (c : Dev nD) : Valuation τ sig (Elt Ideal) :=
  Pipeline.withArrays spec0 c (V0 m c) fun w => (dats m 0 c).arrAt w cfg0.N

/-- What a buffer ends with: the three stretches of host operations, run one after another. -/
theorem afterTail_eq (c : Dev nD) (b : Ref sig .tc) :
    Pipeline.afterTail₀ cfgs (dats m) 0 (V0 m) [hostOps1, hostOps1_1, hostOps1_2] c b
      = StableHlo.after (hostOps1 ++ (hostOps1_1 ++ hostOps1_2)) (mid m c) (Proc.devRef .tc b) := by
  unfold Pipeline.afterTail₀
  rw [List.flatten_cons, List.flatten_cons, List.flatten_cons, List.flatten_nil, List.append_nil]
  rfl

/-- The windows' arrays are different buffers. -/
theorem arr_inj : Function.Injective (Pipeline.arrRef spec0) := by decide

/-- The host operations find the arguments. -/
theorem mid_args (c : Dev nD) : vargs (mid m c) = args m c := by
  unfold vargs args
  congr 1
  · exact (Pipeline.withArrays_arr spec0 arr_inj c (V0 m c) (fun w => (dats m 0 c).arrAt w cfg0.N) 4).trans (arr4 m c)
  · exact (Pipeline.withArrays_arr spec0 arr_inj c (V0 m c) (fun w => (dats m 0 c).arrAt w cfg0.N) 5).trans (arr5 m c)
  · exact (Pipeline.withArrays_arr spec0 arr_inj c (V0 m c) (fun w => (dats m 0 c).arrAt w cfg0.N) 6).trans (arr6 m c)
  · exact (Pipeline.withArrays_arr spec0 arr_inj c (V0 m c) (fun w => (dats m 0 c).arrAt w cfg0.N) 7).trans (arr7 m c)

/-- The reference's run: its three results are the model's, at its arguments. -/
theorem run : θ_run defs (onTc (τ := τ) (main (F := Ideal))) ⟨m, fun _ => 0, ρ⟩ (fun r => ∀ c : Dev nD,
    r.2.mem ((c : Thread nD τ).loc main_v56) = (args m c).dq
    ∧ r.2.mem ((c : Thread nD τ).loc main_v75) = (args m c).dk
    ∧ r.2.mem ((c : Thread nD τ).loc main_v76) = (args m c).dv) :=
  (θ_run defs _ _).mono (fun r h c => by
    refine ⟨?_, ?_, ?_⟩
    · refine ((h c).2 main_v56 (Pipeline.mem_restRefs_of main_v56 (by decide) (by decide))).trans ((afterTail_eq m c _).trans ?_)
      funext y
      obtain ⟨b, i, hh, d, rfl⟩ : ∃ b i hh d, y = ix4 b i hh d := ⟨y 0, y 1, y 2, y 3, by blk_ext⟩
      exact (v56_at (mid m c) b i hh d).trans (by rw [mid_args]; rfl)
    · refine ((h c).2 main_v75 (Pipeline.mem_restRefs_of main_v75 (by decide) (by decide))).trans ((afterTail_eq m c _).trans ?_)
      funext y
      obtain ⟨b, i, hh, d, rfl⟩ : ∃ b i hh d, y = ix4 b i hh d := ⟨y 0, y 1, y 2, y 3, by blk_ext⟩
      exact (v75_at (mid m c) b i hh d).trans (by rw [mid_args]; rfl)
    · refine ((h c).2 main_v76 (Pipeline.mem_restRefs_of main_v76 (by decide) (by decide))).trans ((afterTail_eq m c _).trans ?_)
      funext y
      obtain ⟨b, i, hh, d, rfl⟩ : ∃ b i hh d, y = ix4 b i hh d := ⟨y 0, y 1, y 2, y 3, by blk_ext⟩
      exact (v76_at (mid m c) b i hh d).trans (by rw [mid_args]; rfl)) (run_main m ρ)

end Cert.ReferenceIdeal.Val
-- ==== Proof.Algebraic.lean ====
/- Over the extended reals the kernel and the reference end with the same three gradients. -/
module

public import proofs.«01_k».proof.Proof.KernelRun
public import proofs.«01_k».proof.Proof.RefRun
public import proofs.«01_k».proof.Proof.Scale
public import Idealize.ShloMosaic.Lib.Claim

@[expose] public section

noncomputable section

namespace Cert.Algebraic

open Idealize.ShloMosaic Idealize.ShloMosaic.TcCoe Idealize.SL.Sem

/-- Both programs end with the model's query, key and value gradients of the arguments they share, so with equal
    results, if the scales of the output gradient are finite and not negative. -/
theorem algebraic [hp : Cert.Pre_scale_ok.Facts] :
    Cert.algebraic_KernelIdeal_ReferenceIdeal_pre_scale_ok (hKernelIdeal := Cert.KernelIdeal.Gen.facts)
      (hReferenceIdeal := Cert.ReferenceIdeal.Gen.facts) (hPre_scale_ok := hp) := by
  intro m g m' g' hpre hagree
  have hargs : ∀ c, Cert.ReferenceIdeal.Val.args m' c = Cert.KernelIdeal.Val.args m c := fun c =>
    Cert.Model.Args.ext (hagree c).1 (hagree c).2.1 (hagree c).2.2.1 (hagree c).2.2.2.1 (hagree c).2.2.2.2.1
      (hagree c).2.2.2.2.2.1 (hagree c).2.2.2.2.2.2.1 (hagree c).2.2.2.2.2.2.2.1 (hagree c).2.2.2.2.2.2.2.2.1
      (hagree c).2.2.2.2.2.2.2.2.2
  refine ⟨fun c => (Cert.KernelIdeal.Val.args m c).dq, fun c => (Cert.KernelIdeal.Val.args m c).dk,
    fun c => (Cert.KernelIdeal.Val.args m c).dv, ?_, ?_⟩
  · exact (θ_run Cert.KernelIdeal.defs _ _).mono
      (fun r h c => ⟨(h.1 c).1, (h.1 c).2.1, (h.1 c).2.2, h.2 c⟩)
      (θ_run_and (Cert.KernelIdeal.Val.run m g (fun c i => (Cert.Scale.of_pre m hpre c i).1)
        (fun c i => (Cert.Scale.of_pre m hpre c i).2)) (Cert.KernelIdeal.Gen.unchanged m g))
  · exact (θ_run Cert.ReferenceIdeal.defs _ _).mono
      (fun r h c => ⟨(h.1 c).1.trans (congrArg Cert.Model.Args.dq (hargs c)), (h.1 c).2.1.trans (congrArg Cert.Model.Args.dk (hargs c)),
        (h.1 c).2.2.trans (congrArg Cert.Model.Args.dv (hargs c)), h.2 c⟩)
      (θ_run_and (Cert.ReferenceIdeal.Val.run m' g') (Cert.ReferenceIdeal.Gen.unchanged m' g'))

end Cert.Algebraic
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Scale
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- Every claim: the programs run to the end, leave their arguments and every semaphore counter as they should be; the
    ideal program is the kernel over the extended reals; kernel and reference compute the same three gradients. -/
theorem claim : Cert.Claim :=
  ⟨Cert.Kernel.Gen.facts, Cert.KernelIdeal.Gen.facts, Cert.ReferenceIdeal.Gen.facts, Cert.Scale.facts,
    fun m ρ _ => Cert.Kernel.Gen.frame m ρ, fun m ρ _ => Cert.KernelIdeal.Gen.frame m ρ,
    fun m ρ _ => Cert.KernelIdeal.Gen.frame m ρ, fun m ρ _ => Cert.ReferenceIdeal.Gen.frame m ρ,
    fun m ρ _ => Cert.ReferenceIdeal.Gen.frame m ρ, Cert.Scale.preserves, Cert.Algebraic.algebraic (hp := Cert.Scale.facts)⟩

end Cert.Proof

end
